-- ==== Defs.lean ====
def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1RefIdeal (m : (ℓ : Loc Cert.Band1RefIdeal.nD Cert.Band1RefIdeal.τ Cert.Band1RefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjPool (m : (ℓ : Loc Cert.ProjPool.nD Cert.ProjPool.τ Cert.ProjPool.sig) → Buf (Elt Bits) ℓ) : Prop :=
  True

def Pre_ProjPoolIdeal (m : (ℓ : Loc Cert.ProjPoolIdeal.nD Cert.ProjPoolIdeal.τ Cert.ProjPoolIdeal.sig) → Buf (Elt Ideal) ℓ) : Prop :=
  True

def Pre_ProjPoolRefIdeal (m : (ℓ : Loc Cert.ProjPoolRefIdeal.nD Cert.ProjPoolRefIdeal.τ Cert.ProjPoolRefIdeal.sig) → Buf (Elt Ideal) ℓ) : Prop :=
  True

def Pre_ProjRwkv (m : (ℓ : Loc Cert.ProjRwkv.nD Cert.ProjRwkv.τ Cert.ProjRwkv.sig) → Buf (Elt Bits) ℓ) : Prop :=
  True

def Pre_ProjRwkvIdeal (m : (ℓ : Loc Cert.ProjRwkvIdeal.nD Cert.ProjRwkvIdeal.τ Cert.ProjRwkvIdeal.sig) → Buf (Elt Ideal) ℓ) : Prop :=
  True

def Pre_ProjRwkvRefIdeal (m : (ℓ : Loc Cert.ProjRwkvRefIdeal.nD Cert.ProjRwkvRefIdeal.τ Cert.ProjRwkvRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleFinal (m : (ℓ : Loc Cert.PleFinal.nD Cert.PleFinal.τ Cert.PleFinal.sig) → Buf (Elt Bits) ℓ) : Prop :=
  True

def Pre_PleFinalIdeal (m : (ℓ : Loc Cert.PleFinalIdeal.nD Cert.PleFinalIdeal.τ Cert.PleFinalIdeal.sig) → Buf (Elt Ideal) ℓ) : Prop :=
  True

def Pre_PleFinalRefIdeal (m : (ℓ : Loc Cert.PleFinalRefIdeal.nD Cert.PleFinalRefIdeal.τ Cert.PleFinalRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryIdeal_query_finite [hPre_query_finite : Cert.Pre_query_finite.Facts] (m : (ℓ : Loc Cert.PeerQueryIdeal.nD Cert.PeerQueryIdeal.τ Cert.PeerQueryIdeal.sig) → Buf (Elt Ideal) ℓ) : Prop :=
  ∀ c : Dev Cert.PeerQueryIdeal.nD,
    (Cert.Pre_query_finite.fn (F := Ideal) (m ((c.tc : Thread Cert.PeerQueryIdeal.nD Cert.PeerQueryIdeal.τ).loc Cert.PeerQueryIdeal.main_arg0)) (m ((c.tc : Thread Cert.PeerQueryIdeal.nD Cert.PeerQueryIdeal.τ).loc Cert.PeerQueryIdeal.main_arg1)) (m ((c.tc : Thread Cert.PeerQueryIdeal.nD Cert.PeerQueryIdeal.τ).loc Cert.PeerQueryIdeal.main_arg2))) = (fun _ => 1#1)

def Pre_PeerQueryRefIdeal (m : (ℓ : Loc Cert.PeerQueryRefIdeal.nD Cert.PeerQueryRefIdeal.τ Cert.PeerQueryRefIdeal.sig) → Buf (Elt Ideal) ℓ) : Prop :=
  True

def Pre_PeerQueryRefIdeal_query_finite [hPre_query_finite : Cert.Pre_query_finite.Facts] (m : (ℓ : Loc Cert.PeerQueryRefIdeal.nD Cert.PeerQueryRefIdeal.τ Cert.PeerQueryRefIdeal.sig) → Buf (Elt Ideal) ℓ) : Prop :=
  ∀ c : Dev Cert.PeerQueryRefIdeal.nD,
    (Cert.Pre_query_finite.fn (F := Ideal) (m ((c.tc : Thread Cert.PeerQueryRefIdeal.nD Cert.PeerQueryRefIdeal.τ).loc Cert.PeerQueryRefIdeal.main_arg0)) (m ((c.tc : Thread Cert.PeerQueryRefIdeal.nD Cert.PeerQueryRefIdeal.τ).loc Cert.PeerQueryRefIdeal.main_arg1)) (m ((c.tc : Thread Cert.PeerQueryRefIdeal.nD Cert.PeerQueryRefIdeal.τ).loc Cert.PeerQueryRefIdeal.main_arg2))) = (fun _ => 1#1)

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0)
      ∧ r.2.mem ((c.tc : Thread Cert.Band1.nD Cert.Band1.τ).loc Cert.Band1.main_arg1) = m ((c.tc : Thread Cert.Band1.nD Cert.Band1.τ).loc Cert.Band1.main_arg1)
      ∧ r.2.mem ((c.tc : Thread Cert.Band1.nD Cert.Band1.τ).loc Cert.Band1.main_arg2) = m ((c.tc : Thread Cert.Band1.nD Cert.Band1.τ).loc Cert.Band1.main_arg2))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
      ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
      ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2))
      ∧ r.2.sem = fun _ => 0)

def quiescent_Band1RefIdeal [hBand1RefIdeal : Cert.Band1RefIdeal.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0)
      ∧ r.2.mem ((c.tc : Thread Cert.Band1RefIdeal.nD Cert.Band1RefIdeal.τ).loc Cert.Band1RefIdeal.main_arg1) = m ((c.tc : Thread Cert.Band1RefIdeal.nD Cert.Band1RefIdeal.τ).loc Cert.Band1RefIdeal.main_arg1)
      ∧ r.2.mem ((c.tc : Thread Cert.Band1RefIdeal.nD Cert.Band1RefIdeal.τ).loc Cert.Band1RefIdeal.main_arg2) = m ((c.tc : Thread Cert.Band1RefIdeal.nD Cert.Band1RefIdeal.τ).loc Cert.Band1RefIdeal.main_arg2))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1)
      ∧ r.2.mem ((c.tc : Thread Cert.ProjQkv.nD Cert.ProjQkv.τ).loc Cert.ProjQkv.main_arg2) = m ((c.tc : Thread Cert.ProjQkv.nD Cert.ProjQkv.τ).loc Cert.ProjQkv.main_arg2))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
      ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1)
      ∧ r.2.mem ((c.tc : Thread Cert.ProjQkvRefIdeal.nD Cert.ProjQkvRefIdeal.τ).loc Cert.ProjQkvRefIdeal.main_arg2) = m ((c.tc : Thread Cert.ProjQkvRefIdeal.nD Cert.ProjQkvRefIdeal.τ).loc Cert.ProjQkvRefIdeal.main_arg2))
      ∧ r.2.sem = fun _ => 0)

def quiescent_ProjPool [hProjPool : Cert.ProjPool.Facts] : Prop :=
  ∀ (m : (ℓ : Loc Cert.ProjPool.nD Cert.ProjPool.τ Cert.ProjPool.sig) → Buf (Elt Bits) ℓ) (g : Dev Cert.ProjPool.nD → PrngReg), Pre_ProjPool m →
    θ_run (Cert.ProjPool.defs (F := Bits)) (onTc (τ := Cert.ProjPool.τ) (Cert.ProjPool.main (F := Bits))) ⟨m, fun _ => 0, g⟩ (fun r => (∀ c : Dev Cert.ProjPool.nD,
      r.2.mem ((c.tc : Thread Cert.ProjPool.nD Cert.ProjPool.τ).loc Cert.ProjPool.main_arg0) = m ((c.tc : Thread Cert.ProjPool.nD Cert.ProjPool.τ).loc Cert.ProjPool.main_arg0)
      ∧ r.2.mem ((c.tc : Thread Cert.ProjPool.nD Cert.ProjPool.τ).loc Cert.ProjPool.main_arg1) = m ((c.tc : Thread Cert.ProjPool.nD Cert.ProjPool.τ).loc Cert.ProjPool.main_arg1)
      ∧ r.2.mem ((c.tc : Thread Cert.ProjPool.nD Cert.ProjPool.τ).loc Cert.ProjPool.main_arg2) = m ((c.tc : Thread Cert.ProjPool.nD Cert.ProjPool.τ).loc Cert.ProjPool.main_arg2))
      ∧ r.2.sem = fun _ => 0)

def quiescent_ProjPoolIdeal [hProjPoolIdeal : Cert.ProjPoolIdeal.Facts] : Prop :=
  ∀ (m : (ℓ : Loc Cert.ProjPoolIdeal.nD Cert.ProjPoolIdeal.τ Cert.ProjPoolIdeal.sig) → Buf (Elt Ideal) ℓ) (g : Dev Cert.ProjPoolIdeal.nD → PrngReg), Pre_ProjPoolIdeal m →
    θ_run (Cert.ProjPoolIdeal.defs (F := Ideal)) (onTc (τ := Cert.ProjPoolIdeal.τ) (Cert.ProjPoolIdeal.main (F := Ideal))) ⟨m, fun _ => 0, g⟩ (fun r => (∀ c : Dev Cert.ProjPoolIdeal.nD,
      r.2.mem ((c.tc : Thread Cert.ProjPoolIdeal.nD Cert.ProjPoolIdeal.τ).loc Cert.ProjPoolIdeal.main_arg0) = m ((c.tc : Thread Cert.ProjPoolIdeal.nD Cert.ProjPoolIdeal.τ).loc Cert.ProjPoolIdeal.main_arg0)
      ∧ r.2.mem ((c.tc : Thread Cert.ProjPoolIdeal.nD Cert.ProjPoolIdeal.τ).loc Cert.ProjPoolIdeal.main_arg1) = m ((c.tc : Thread Cert.ProjPoolIdeal.nD Cert.ProjPoolIdeal.τ).loc Cert.ProjPoolIdeal.main_arg1)
      ∧ r.2.mem ((c.tc : Thread Cert.ProjPoolIdeal.nD Cert.ProjPoolIdeal.τ).loc Cert.ProjPoolIdeal.main_arg2) = m ((c.tc : Thread Cert.ProjPoolIdeal.nD Cert.ProjPoolIdeal.τ).loc Cert.ProjPoolIdeal.main_arg2))
      ∧ r.2.sem = fun _ => 0)

def quiescent_ProjPoolRefIdeal [hProjPoolRefIdeal : Cert.ProjPoolRefIdeal.Facts] : Prop :=
  ∀ (m : (ℓ : Loc Cert.ProjPoolRefIdeal.nD Cert.ProjPoolRefIdeal.τ Cert.ProjPoolRefIdeal.sig) → Buf (Elt Ideal) ℓ) (g : Dev Cert.ProjPoolRefIdeal.nD → PrngReg), Pre_ProjPoolRefIdeal m →
    θ_run (Cert.ProjPoolRefIdeal.defs (F := Ideal)) (onTc (τ := Cert.ProjPoolRefIdeal.τ) (Cert.ProjPoolRefIdeal.main (F := Ideal))) ⟨m, fun _ => 0, g⟩ (fun r => (∀ c : Dev Cert.ProjPoolRefIdeal.nD,
      r.2.mem ((c.tc : Thread Cert.ProjPoolRefIdeal.nD Cert.ProjPoolRefIdeal.τ).loc Cert.ProjPoolRefIdeal.main_arg0) = m ((c.tc : Thread Cert.ProjPoolRefIdeal.nD Cert.ProjPoolRefIdeal.τ).loc Cert.ProjPoolRefIdeal.main_arg0)
      ∧ r.2.mem ((c.tc : Thread Cert.ProjPoolRefIdeal.nD Cert.ProjPoolRefIdeal.τ).loc Cert.ProjPoolRefIdeal.main_arg1) = m ((c.tc : Thread Cert.ProjPoolRefIdeal.nD Cert.ProjPoolRefIdeal.τ).loc Cert.ProjPoolRefIdeal.main_arg1)
      ∧ r.2.mem ((c.tc : Thread Cert.ProjPoolRefIdeal.nD Cert.ProjPoolRefIdeal.τ).loc Cert.ProjPoolRefIdeal.main_arg2) = m ((c.tc : Thread Cert.ProjPoolRefIdeal.nD Cert.ProjPoolRefIdeal.τ).loc Cert.ProjPoolRefIdeal.main_arg2))
      ∧ r.2.sem = fun _ => 0)

def quiescent_ProjRwkv [hProjRwkv : Cert.ProjRwkv.Facts] : Prop :=
  ∀ (m : (ℓ : Loc Cert.ProjRwkv.nD Cert.ProjRwkv.τ Cert.ProjRwkv.sig) → Buf (Elt Bits) ℓ) (g : Dev Cert.ProjRwkv.nD → PrngReg), Pre_ProjRwkv m →
    θ_run (Cert.ProjRwkv.defs (F := Bits)) (onTc (τ := Cert.ProjRwkv.τ) (Cert.ProjRwkv.main (F := Bits))) ⟨m, fun _ => 0, g⟩ (fun r => (∀ c : Dev Cert.ProjRwkv.nD,
      r.2.mem ((c.tc : Thread Cert.ProjRwkv.nD Cert.ProjRwkv.τ).loc Cert.ProjRwkv.main_arg0) = m ((c.tc : Thread Cert.ProjRwkv.nD Cert.ProjRwkv.τ).loc Cert.ProjRwkv.main_arg0)
      ∧ r.2.mem ((c.tc : Thread Cert.ProjRwkv.nD Cert.ProjRwkv.τ).loc Cert.ProjRwkv.main_arg1) = m ((c.tc : Thread Cert.ProjRwkv.nD Cert.ProjRwkv.τ).loc Cert.ProjRwkv.main_arg1)
      ∧ r.2.mem ((c.tc : Thread Cert.ProjRwkv.nD Cert.ProjRwkv.τ).loc Cert.ProjRwkv.main_arg2) = m ((c.tc : Thread Cert.ProjRwkv.nD Cert.ProjRwkv.τ).loc Cert.ProjRwkv.main_arg2))
      ∧ r.2.sem = fun _ => 0)

def quiescent_ProjRwkvIdeal [hProjRwkvIdeal : Cert.ProjRwkvIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg), Pre_ProjRwkvIdeal m →
    θ_run (Cert.ProjRwkvIdeal.defs (F := Ideal)) (onTc (τ := Cert.ProjRwkvIdeal.τ) (Cert.ProjRwkvIdeal.main (F := Ideal))) ⟨m, fun _ => 0, g⟩ (fun r => (∀ c : Dev Cert.ProjRwkvIdeal.nD,
      r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
      ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1)
      ∧ r.2.mem ((c.tc : Thread Cert.ProjRwkvIdeal.nD Cert.ProjRwkvIdeal.τ).loc Cert.ProjRwkvIdeal.main_arg2) = m ((c.tc : Thread Cert.ProjRwkvIdeal.nD Cert.ProjRwkvIdeal.τ).loc Cert.ProjRwkvIdeal.main_arg2))
      ∧ r.2.sem = fun _ => 0)

def quiescent_ProjRwkvRefIdeal [hProjRwkvRefIdeal : Cert.ProjRwkvRefIdeal.Facts] : Prop :=
  ∀ (m : (ℓ : Loc Cert.ProjRwkvRefIdeal.nD Cert.ProjRwkvRefIdeal.τ Cert.ProjRwkvRefIdeal.sig) → Buf (Elt Ideal) ℓ) (g : Dev Cert.ProjRwkvRefIdeal.nD → PrngReg), Pre_ProjRwkvRefIdeal m →
    θ_run (Cert.ProjRwkvRefIdeal.defs (F := Ideal)) (onTc (τ := Cert.ProjRwkvRefIdeal.τ) (Cert.ProjRwkvRefIdeal.main (F := Ideal))) ⟨m, fun _ => 0, g⟩ (fun r => (∀ c : Dev Cert.ProjRwkvRefIdeal.nD,
      r.2.mem ((c.tc : Thread Cert.ProjRwkvRefIdeal.nD Cert.ProjRwkvRefIdeal.τ).loc Cert.ProjRwkvRefIdeal.main_arg0) = m ((c.tc : Thread Cert.ProjRwkvRefIdeal.nD Cert.ProjRwkvRefIdeal.τ).loc Cert.ProjRwkvRefIdeal.main_arg0)
      ∧ r.2.mem ((c.tc : Thread Cert.ProjRwkvRefIdeal.nD Cert.ProjRwkvRefIdeal.τ).loc Cert.ProjRwkvRefIdeal.main_arg1) = m ((c.tc : Thread Cert.ProjRwkvRefIdeal.nD Cert.ProjRwkvRefIdeal.τ).loc Cert.ProjRwkvRefIdeal.main_arg1)
      ∧ r.2.mem ((c.tc : Thread Cert.ProjRwkvRefIdeal.nD Cert.ProjRwkvRefIdeal.τ).loc Cert.ProjRwkvRefIdeal.main_arg2) = m ((c.tc : Thread Cert.ProjRwkvRefIdeal.nD Cert.ProjRwkvRefIdeal.τ).loc Cert.ProjRwkvRefIdeal.main_arg2))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1)
      ∧ r.2.mem ((c.tc : Thread Cert.ProjGate.nD Cert.ProjGate.τ).loc Cert.ProjGate.main_arg2) = m ((c.tc : Thread Cert.ProjGate.nD Cert.ProjGate.τ).loc Cert.ProjGate.main_arg2))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1)
      ∧ r.2.mem ((c.tc : Thread Cert.ProjGateIdeal.nD Cert.ProjGateIdeal.τ).loc Cert.ProjGateIdeal.main_arg2) = m ((c.tc : Thread Cert.ProjGateIdeal.nD Cert.ProjGateIdeal.τ).loc Cert.ProjGateIdeal.main_arg2))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1)
      ∧ r.2.mem ((c.tc : Thread Cert.ProjGateRefIdeal.nD Cert.ProjGateRefIdeal.τ).loc Cert.ProjGateRefIdeal.main_arg2) = m ((c.tc : Thread Cert.ProjGateRefIdeal.nD Cert.ProjGateRefIdeal.τ).loc Cert.ProjGateRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleFinal [hPleFinal : Cert.PleFinal.Facts] : Prop :=
  ∀ (m : (ℓ : Loc Cert.PleFinal.nD Cert.PleFinal.τ Cert.PleFinal.sig) → Buf (Elt Bits) ℓ) (g : Dev Cert.PleFinal.nD → PrngReg), Pre_PleFinal m →
    θ_run (Cert.PleFinal.defs (F := Bits)) (onTc (τ := Cert.PleFinal.τ) (Cert.PleFinal.main (F := Bits))) ⟨m, fun _ => 0, g⟩ (fun r => (∀ c : Dev Cert.PleFinal.nD,
      r.2.mem ((c.tc : Thread Cert.PleFinal.nD Cert.PleFinal.τ).loc Cert.PleFinal.main_arg0) = m ((c.tc : Thread Cert.PleFinal.nD Cert.PleFinal.τ).loc Cert.PleFinal.main_arg0)
      ∧ r.2.mem ((c.tc : Thread Cert.PleFinal.nD Cert.PleFinal.τ).loc Cert.PleFinal.main_arg1) = m ((c.tc : Thread Cert.PleFinal.nD Cert.PleFinal.τ).loc Cert.PleFinal.main_arg1)
      ∧ r.2.mem ((c.tc : Thread Cert.PleFinal.nD Cert.PleFinal.τ).loc Cert.PleFinal.main_arg2) = m ((c.tc : Thread Cert.PleFinal.nD Cert.PleFinal.τ).loc Cert.PleFinal.main_arg2)
      ∧ r.2.mem ((c.tc : Thread Cert.PleFinal.nD Cert.PleFinal.τ).loc Cert.PleFinal.main_arg3) = m ((c.tc : Thread Cert.PleFinal.nD Cert.PleFinal.τ).loc Cert.PleFinal.main_arg3)
      ∧ r.2.mem ((c.tc : Thread Cert.PleFinal.nD Cert.PleFinal.τ).loc Cert.PleFinal.main_arg4) = m ((c.tc : Thread Cert.PleFinal.nD Cert.PleFinal.τ).loc Cert.PleFinal.main_arg4)
      ∧ r.2.mem ((c.tc : Thread Cert.PleFinal.nD Cert.PleFinal.τ).loc Cert.PleFinal.main_arg5) = m ((c.tc : Thread Cert.PleFinal.nD Cert.PleFinal.τ).loc Cert.PleFinal.main_arg5)
      ∧ r.2.mem ((c.tc : Thread Cert.PleFinal.nD Cert.PleFinal.τ).loc Cert.PleFinal.main_arg6) = m ((c.tc : Thread Cert.PleFinal.nD Cert.PleFinal.τ).loc Cert.PleFinal.main_arg6))
      ∧ r.2.sem = fun _ => 0)

def quiescent_PleFinalIdeal [hPleFinalIdeal : Cert.PleFinalIdeal.Facts] : Prop :=
  ∀ (m : (ℓ : Loc Cert.PleFinalIdeal.nD Cert.PleFinalIdeal.τ Cert.PleFinalIdeal.sig) → Buf (Elt Ideal) ℓ) (g : Dev Cert.PleFinalIdeal.nD → PrngReg), Pre_PleFinalIdeal m →
    θ_run (Cert.PleFinalIdeal.defs (F := Ideal)) (onTc (τ := Cert.PleFinalIdeal.τ) (Cert.PleFinalIdeal.main (F := Ideal))) ⟨m, fun _ => 0, g⟩ (fun r => (∀ c : Dev Cert.PleFinalIdeal.nD,
      r.2.mem ((c.tc : Thread Cert.PleFinalIdeal.nD Cert.PleFinalIdeal.τ).loc Cert.PleFinalIdeal.main_arg0) = m ((c.tc : Thread Cert.PleFinalIdeal.nD Cert.PleFinalIdeal.τ).loc Cert.PleFinalIdeal.main_arg0)
      ∧ r.2.mem ((c.tc : Thread Cert.PleFinalIdeal.nD Cert.PleFinalIdeal.τ).loc Cert.PleFinalIdeal.main_arg1) = m ((c.tc : Thread Cert.PleFinalIdeal.nD Cert.PleFinalIdeal.τ).loc Cert.PleFinalIdeal.main_arg1)
      ∧ r.2.mem ((c.tc : Thread Cert.PleFinalIdeal.nD Cert.PleFinalIdeal.τ).loc Cert.PleFinalIdeal.main_arg2) = m ((c.tc : Thread Cert.PleFinalIdeal.nD Cert.PleFinalIdeal.τ).loc Cert.PleFinalIdeal.main_arg2)
      ∧ r.2.mem ((c.tc : Thread Cert.PleFinalIdeal.nD Cert.PleFinalIdeal.τ).loc Cert.PleFinalIdeal.main_arg3) = m ((c.tc : Thread Cert.PleFinalIdeal.nD Cert.PleFinalIdeal.τ).loc Cert.PleFinalIdeal.main_arg3)
      ∧ r.2.mem ((c.tc : Thread Cert.PleFinalIdeal.nD Cert.PleFinalIdeal.τ).loc Cert.PleFinalIdeal.main_arg4) = m ((c.tc : Thread Cert.PleFinalIdeal.nD Cert.PleFinalIdeal.τ).loc Cert.PleFinalIdeal.main_arg4)
      ∧ r.2.mem ((c.tc : Thread Cert.PleFinalIdeal.nD Cert.PleFinalIdeal.τ).loc Cert.PleFinalIdeal.main_arg5) = m ((c.tc : Thread Cert.PleFinalIdeal.nD Cert.PleFinalIdeal.τ).loc Cert.PleFinalIdeal.main_arg5)
      ∧ r.2.mem ((c.tc : Thread Cert.PleFinalIdeal.nD Cert.PleFinalIdeal.τ).loc Cert.PleFinalIdeal.main_arg6) = m ((c.tc : Thread Cert.PleFinalIdeal.nD Cert.PleFinalIdeal.τ).loc Cert.PleFinalIdeal.main_arg6))
      ∧ r.2.sem = fun _ => 0)

def quiescent_PleFinalRefIdeal [hPleFinalRefIdeal : Cert.PleFinalRefIdeal.Facts] : Prop :=
  ∀ (m : (ℓ : Loc Cert.PleFinalRefIdeal.nD Cert.PleFinalRefIdeal.τ Cert.PleFinalRefIdeal.sig) → Buf (Elt Ideal) ℓ) (g : Dev Cert.PleFinalRefIdeal.nD → PrngReg), Pre_PleFinalRefIdeal m →
    θ_run (Cert.PleFinalRefIdeal.defs (F := Ideal)) (onTc (τ := Cert.PleFinalRefIdeal.τ) (Cert.PleFinalRefIdeal.main (F := Ideal))) ⟨m, fun _ => 0, g⟩ (fun r => (∀ c : Dev Cert.PleFinalRefIdeal.nD,
      r.2.mem ((c.tc : Thread Cert.PleFinalRefIdeal.nD Cert.PleFinalRefIdeal.τ).loc Cert.PleFinalRefIdeal.main_arg0) = m ((c.tc : Thread Cert.PleFinalRefIdeal.nD Cert.PleFinalRefIdeal.τ).loc Cert.PleFinalRefIdeal.main_arg0)
      ∧ r.2.mem ((c.tc : Thread Cert.PleFinalRefIdeal.nD Cert.PleFinalRefIdeal.τ).loc Cert.PleFinalRefIdeal.main_arg1) = m ((c.tc : Thread Cert.PleFinalRefIdeal.nD Cert.PleFinalRefIdeal.τ).loc Cert.PleFinalRefIdeal.main_arg1)
      ∧ r.2.mem ((c.tc : Thread Cert.PleFinalRefIdeal.nD Cert.PleFinalRefIdeal.τ).loc Cert.PleFinalRefIdeal.main_arg2) = m ((c.tc : Thread Cert.PleFinalRefIdeal.nD Cert.PleFinalRefIdeal.τ).loc Cert.PleFinalRefIdeal.main_arg2)
      ∧ r.2.mem ((c.tc : Thread Cert.PleFinalRefIdeal.nD Cert.PleFinalRefIdeal.τ).loc Cert.PleFinalRefIdeal.main_arg3) = m ((c.tc : Thread Cert.PleFinalRefIdeal.nD Cert.PleFinalRefIdeal.τ).loc Cert.PleFinalRefIdeal.main_arg3)
      ∧ r.2.mem ((c.tc : Thread Cert.PleFinalRefIdeal.nD Cert.PleFinalRefIdeal.τ).loc Cert.PleFinalRefIdeal.main_arg4) = m ((c.tc : Thread Cert.PleFinalRefIdeal.nD Cert.PleFinalRefIdeal.τ).loc Cert.PleFinalRefIdeal.main_arg4)
      ∧ r.2.mem ((c.tc : Thread Cert.PleFinalRefIdeal.nD Cert.PleFinalRefIdeal.τ).loc Cert.PleFinalRefIdeal.main_arg5) = m ((c.tc : Thread Cert.PleFinalRefIdeal.nD Cert.PleFinalRefIdeal.τ).loc Cert.PleFinalRefIdeal.main_arg5)
      ∧ r.2.mem ((c.tc : Thread Cert.PleFinalRefIdeal.nD Cert.PleFinalRefIdeal.τ).loc Cert.PleFinalRefIdeal.main_arg6) = m ((c.tc : Thread Cert.PleFinalRefIdeal.nD Cert.PleFinalRefIdeal.τ).loc Cert.PleFinalRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1)
      ∧ r.2.mem ((c.tc : Thread Cert.PeerQuery.nD Cert.PeerQuery.τ).loc Cert.PeerQuery.main_arg2) = m ((c.tc : Thread Cert.PeerQuery.nD Cert.PeerQuery.τ).loc Cert.PeerQuery.main_arg2))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1)
      ∧ r.2.mem ((c.tc : Thread Cert.PeerQueryIdeal.nD Cert.PeerQueryIdeal.τ).loc Cert.PeerQueryIdeal.main_arg2) = m ((c.tc : Thread Cert.PeerQueryIdeal.nD Cert.PeerQueryIdeal.τ).loc Cert.PeerQueryIdeal.main_arg2))
      ∧ r.2.sem = fun _ => 0)

def quiescent_PeerQueryIdeal_pre_query_finite [hPeerQueryIdeal : Cert.PeerQueryIdeal.Facts] [hPre_query_finite : Cert.Pre_query_finite.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal_query_finite m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1)
      ∧ r.2.mem ((c.tc : Thread Cert.PeerQueryIdeal.nD Cert.PeerQueryIdeal.τ).loc Cert.PeerQueryIdeal.main_arg2) = m ((c.tc : Thread Cert.PeerQueryIdeal.nD Cert.PeerQueryIdeal.τ).loc Cert.PeerQueryIdeal.main_arg2))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1)
      ∧ r.2.mem ((c.tc : Thread Cert.PeerQueryRefIdeal.nD Cert.PeerQueryRefIdeal.τ).loc Cert.PeerQueryRefIdeal.main_arg2) = m ((c.tc : Thread Cert.PeerQueryRefIdeal.nD Cert.PeerQueryRefIdeal.τ).loc Cert.PeerQueryRefIdeal.main_arg2))
      ∧ r.2.sem = fun _ => 0)

def quiescent_PeerQueryRefIdeal_pre_query_finite [hPeerQueryRefIdeal : Cert.PeerQueryRefIdeal.Facts] [hPre_query_finite : Cert.Pre_query_finite.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal_query_finite m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1)
      ∧ r.2.mem ((c.tc : Thread Cert.PeerQueryRefIdeal.nD Cert.PeerQueryRefIdeal.τ).loc Cert.PeerQueryRefIdeal.main_arg2) = m ((c.tc : Thread Cert.PeerQueryRefIdeal.nD Cert.PeerQueryRefIdeal.τ).loc Cert.PeerQueryRefIdeal.main_arg2))
      ∧ r.2.sem = fun _ => 0)

def preserves_Band1_Band1Ideal : Prop :=
  True

def algebraic_Band1Ideal_Band1RefIdeal [hBand1Ideal : Cert.Band1Ideal.Facts] [hBand1RefIdeal : Cert.Band1RefIdeal.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.Band1RefIdeal.nD Cert.Band1RefIdeal.τ Cert.Band1RefIdeal.sig) → Buf (Elt Ideal) ℓ) (g' : Dev Cert.Band1RefIdeal.nD → PrngReg), Pre_Band1Ideal m →
    (∀ c : Dev Cert.Band1Ideal.nD,
      m' ((c.tc : Thread Cert.Band1RefIdeal.nD Cert.Band1RefIdeal.τ).loc Cert.Band1RefIdeal.main_arg0) = m ((c.tc : Thread Cert.Band1Ideal.nD Cert.Band1Ideal.τ).loc Cert.Band1Ideal.main_arg0)
      ∧ m' ((c.tc : Thread Cert.Band1RefIdeal.nD Cert.Band1RefIdeal.τ).loc Cert.Band1RefIdeal.main_arg1) = m ((c.tc : Thread Cert.Band1Ideal.nD Cert.Band1Ideal.τ).loc Cert.Band1Ideal.main_arg1)
      ∧ m' ((c.tc : Thread Cert.Band1RefIdeal.nD Cert.Band1RefIdeal.τ).loc Cert.Band1RefIdeal.main_arg2) = m ((c.tc : Thread Cert.Band1Ideal.nD Cert.Band1Ideal.τ).loc Cert.Band1Ideal.main_arg2)) →
    ∃ (v0 : (c : Dev Cert.Band1Ideal.nD) → Buf (Elt Ideal) ((c.tc : Thread Cert.Band1Ideal.nD Cert.Band1Ideal.τ).loc Cert.Band1Ideal.main_v3_0)) (v1 : (c : Dev Cert.Band1Ideal.nD) → Buf (Elt Ideal) ((c.tc : Thread Cert.Band1Ideal.nD Cert.Band1Ideal.τ).loc Cert.Band1Ideal.main_v3_1)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v3_0) = v0 c
          ∧ r.2.mem ((c.tc : Thread Cert.Band1Ideal.nD Cert.Band1Ideal.τ).loc Cert.Band1Ideal.main_v3_1) = v1 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
          ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
          ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2))
      ∧ θ_run (Cert.Band1RefIdeal.defs (F := Ideal)) (onTc (τ := Cert.Band1RefIdeal.τ) (Cert.Band1RefIdeal.main (F := Ideal))) ⟨m', fun _ => 0, g'⟩ (fun r => ∀ c : Dev Cert.Band1RefIdeal.nD,
          r.2.mem ((c.tc : Thread Cert.Band1RefIdeal.nD Cert.Band1RefIdeal.τ).loc Cert.Band1RefIdeal.main_v42) = v0 c
          ∧ r.2.mem ((c.tc : Thread Cert.Band1RefIdeal.nD Cert.Band1RefIdeal.τ).loc Cert.Band1RefIdeal.main_v43) = v1 c
          ∧ r.2.mem ((c.tc : Thread Cert.Band1RefIdeal.nD Cert.Band1RefIdeal.τ).loc Cert.Band1RefIdeal.main_arg0) = m' ((c.tc : Thread Cert.Band1RefIdeal.nD Cert.Band1RefIdeal.τ).loc Cert.Band1RefIdeal.main_arg0)
          ∧ r.2.mem ((c.tc : Thread Cert.Band1RefIdeal.nD Cert.Band1RefIdeal.τ).loc Cert.Band1RefIdeal.main_arg1) = m' ((c.tc : Thread Cert.Band1RefIdeal.nD Cert.Band1RefIdeal.τ).loc Cert.Band1RefIdeal.main_arg1)
          ∧ r.2.mem ((c.tc : Thread Cert.Band1RefIdeal.nD Cert.Band1RefIdeal.τ).loc Cert.Band1RefIdeal.main_arg2) = m' ((c.tc : Thread Cert.Band1RefIdeal.nD Cert.Band1RefIdeal.τ).loc Cert.Band1RefIdeal.main_arg2))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)
      ∧ m' ((c.tc : Thread Cert.ProjQkvRefIdeal.nD Cert.ProjQkvRefIdeal.τ).loc Cert.ProjQkvRefIdeal.main_arg2) = m ((c.tc : Thread Cert.ProjQkvIdeal.nD Cert.ProjQkvIdeal.τ).loc Cert.ProjQkvIdeal.main_arg2)) →
    ∃ (v0 : (c : Dev Cert.ProjQkvIdeal.nD) → Buf (Elt Ideal) ((c.tc : Thread Cert.ProjQkvIdeal.nD Cert.ProjQkvIdeal.τ).loc Cert.ProjQkvIdeal.main_v3)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v3) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
          ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v14) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1)
          ∧ r.2.mem ((c.tc : Thread Cert.ProjQkvRefIdeal.nD Cert.ProjQkvRefIdeal.τ).loc Cert.ProjQkvRefIdeal.main_arg2) = m' ((c.tc : Thread Cert.ProjQkvRefIdeal.nD Cert.ProjQkvRefIdeal.τ).loc Cert.ProjQkvRefIdeal.main_arg2))

def preserves_ProjPool_ProjPoolIdeal : Prop :=
  True

def algebraic_ProjPoolIdeal_ProjPoolRefIdeal [hProjPoolIdeal : Cert.ProjPoolIdeal.Facts] [hProjPoolRefIdeal : Cert.ProjPoolRefIdeal.Facts] : Prop :=
  ∀ (m : (ℓ : Loc Cert.ProjPoolIdeal.nD Cert.ProjPoolIdeal.τ Cert.ProjPoolIdeal.sig) → Buf (Elt Ideal) ℓ) (g : Dev Cert.ProjPoolIdeal.nD → PrngReg)
    (m' : (ℓ : Loc Cert.ProjPoolRefIdeal.nD Cert.ProjPoolRefIdeal.τ Cert.ProjPoolRefIdeal.sig) → Buf (Elt Ideal) ℓ) (g' : Dev Cert.ProjPoolRefIdeal.nD → PrngReg), Pre_ProjPoolIdeal m →
    (∀ c : Dev Cert.ProjPoolIdeal.nD,
      m' ((c.tc : Thread Cert.ProjPoolRefIdeal.nD Cert.ProjPoolRefIdeal.τ).loc Cert.ProjPoolRefIdeal.main_arg0) = m ((c.tc : Thread Cert.ProjPoolIdeal.nD Cert.ProjPoolIdeal.τ).loc Cert.ProjPoolIdeal.main_arg0)
      ∧ m' ((c.tc : Thread Cert.ProjPoolRefIdeal.nD Cert.ProjPoolRefIdeal.τ).loc Cert.ProjPoolRefIdeal.main_arg1) = m ((c.tc : Thread Cert.ProjPoolIdeal.nD Cert.ProjPoolIdeal.τ).loc Cert.ProjPoolIdeal.main_arg1)
      ∧ m' ((c.tc : Thread Cert.ProjPoolRefIdeal.nD Cert.ProjPoolRefIdeal.τ).loc Cert.ProjPoolRefIdeal.main_arg2) = m ((c.tc : Thread Cert.ProjPoolIdeal.nD Cert.ProjPoolIdeal.τ).loc Cert.ProjPoolIdeal.main_arg2)) →
    ∃ (v0 : (c : Dev Cert.ProjPoolIdeal.nD) → Buf (Elt Ideal) ((c.tc : Thread Cert.ProjPoolIdeal.nD Cert.ProjPoolIdeal.τ).loc Cert.ProjPoolIdeal.main_v3)),
      θ_run (Cert.ProjPoolIdeal.defs (F := Ideal)) (onTc (τ := Cert.ProjPoolIdeal.τ) (Cert.ProjPoolIdeal.main (F := Ideal))) ⟨m, fun _ => 0, g⟩ (fun r => ∀ c : Dev Cert.ProjPoolIdeal.nD,
          r.2.mem ((c.tc : Thread Cert.ProjPoolIdeal.nD Cert.ProjPoolIdeal.τ).loc Cert.ProjPoolIdeal.main_v3) = v0 c
          ∧ r.2.mem ((c.tc : Thread Cert.ProjPoolIdeal.nD Cert.ProjPoolIdeal.τ).loc Cert.ProjPoolIdeal.main_arg0) = m ((c.tc : Thread Cert.ProjPoolIdeal.nD Cert.ProjPoolIdeal.τ).loc Cert.ProjPoolIdeal.main_arg0)
          ∧ r.2.mem ((c.tc : Thread Cert.ProjPoolIdeal.nD Cert.ProjPoolIdeal.τ).loc Cert.ProjPoolIdeal.main_arg1) = m ((c.tc : Thread Cert.ProjPoolIdeal.nD Cert.ProjPoolIdeal.τ).loc Cert.ProjPoolIdeal.main_arg1)
          ∧ r.2.mem ((c.tc : Thread Cert.ProjPoolIdeal.nD Cert.ProjPoolIdeal.τ).loc Cert.ProjPoolIdeal.main_arg2) = m ((c.tc : Thread Cert.ProjPoolIdeal.nD Cert.ProjPoolIdeal.τ).loc Cert.ProjPoolIdeal.main_arg2))
      ∧ θ_run (Cert.ProjPoolRefIdeal.defs (F := Ideal)) (onTc (τ := Cert.ProjPoolRefIdeal.τ) (Cert.ProjPoolRefIdeal.main (F := Ideal))) ⟨m', fun _ => 0, g'⟩ (fun r => ∀ c : Dev Cert.ProjPoolRefIdeal.nD,
          r.2.mem ((c.tc : Thread Cert.ProjPoolRefIdeal.nD Cert.ProjPoolRefIdeal.τ).loc Cert.ProjPoolRefIdeal.main_v14) = v0 c
          ∧ r.2.mem ((c.tc : Thread Cert.ProjPoolRefIdeal.nD Cert.ProjPoolRefIdeal.τ).loc Cert.ProjPoolRefIdeal.main_arg0) = m' ((c.tc : Thread Cert.ProjPoolRefIdeal.nD Cert.ProjPoolRefIdeal.τ).loc Cert.ProjPoolRefIdeal.main_arg0)
          ∧ r.2.mem ((c.tc : Thread Cert.ProjPoolRefIdeal.nD Cert.ProjPoolRefIdeal.τ).loc Cert.ProjPoolRefIdeal.main_arg1) = m' ((c.tc : Thread Cert.ProjPoolRefIdeal.nD Cert.ProjPoolRefIdeal.τ).loc Cert.ProjPoolRefIdeal.main_arg1)
          ∧ r.2.mem ((c.tc : Thread Cert.ProjPoolRefIdeal.nD Cert.ProjPoolRefIdeal.τ).loc Cert.ProjPoolRefIdeal.main_arg2) = m' ((c.tc : Thread Cert.ProjPoolRefIdeal.nD Cert.ProjPoolRefIdeal.τ).loc Cert.ProjPoolRefIdeal.main_arg2))

def preserves_ProjRwkv_ProjRwkvIdeal : Prop :=
  True

def algebraic_ProjRwkvIdeal_ProjRwkvRefIdeal [hProjRwkvIdeal : Cert.ProjRwkvIdeal.Facts] [hProjRwkvRefIdeal : Cert.ProjRwkvRefIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg)
    (m' : (ℓ : Loc Cert.ProjRwkvRefIdeal.nD Cert.ProjRwkvRefIdeal.τ Cert.ProjRwkvRefIdeal.sig) → Buf (Elt Ideal) ℓ) (g' : Dev Cert.ProjRwkvRefIdeal.nD → PrngReg), Pre_ProjRwkvIdeal m →
    (∀ c : Dev Cert.ProjRwkvIdeal.nD,
      m' ((c.tc : Thread Cert.ProjRwkvRefIdeal.nD Cert.ProjRwkvRefIdeal.τ).loc Cert.ProjRwkvRefIdeal.main_arg0) = m ((c.tc : Thread Cert.ProjRwkvIdeal.nD Cert.ProjRwkvIdeal.τ).loc Cert.ProjRwkvIdeal.main_arg0)
      ∧ m' ((c.tc : Thread Cert.ProjRwkvRefIdeal.nD Cert.ProjRwkvRefIdeal.τ).loc Cert.ProjRwkvRefIdeal.main_arg1) = m ((c.tc : Thread Cert.ProjRwkvIdeal.nD Cert.ProjRwkvIdeal.τ).loc Cert.ProjRwkvIdeal.main_arg1)
      ∧ m' ((c.tc : Thread Cert.ProjRwkvRefIdeal.nD Cert.ProjRwkvRefIdeal.τ).loc Cert.ProjRwkvRefIdeal.main_arg2) = m ((c.tc : Thread Cert.ProjRwkvIdeal.nD Cert.ProjRwkvIdeal.τ).loc Cert.ProjRwkvIdeal.main_arg2)) →
    ∃ (v0 : (c : Dev Cert.ProjRwkvIdeal.nD) → Buf (Elt Ideal) ((c.tc : Thread Cert.ProjRwkvIdeal.nD Cert.ProjRwkvIdeal.τ).loc Cert.ProjRwkvIdeal.main_v3)),
      θ_run (Cert.ProjRwkvIdeal.defs (F := Ideal)) (onTc (τ := Cert.ProjRwkvIdeal.τ) (Cert.ProjRwkvIdeal.main (F := Ideal))) ⟨m, fun _ => 0, g⟩ (fun r => ∀ c : Dev Cert.ProjRwkvIdeal.nD,
          r.2.mem ((c.tc : Thread Cert.ProjRwkvIdeal.nD Cert.ProjRwkvIdeal.τ).loc Cert.ProjRwkvIdeal.main_v3) = v0 c
          ∧ r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
          ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1)
          ∧ r.2.mem ((c.tc : Thread Cert.ProjRwkvIdeal.nD Cert.ProjRwkvIdeal.τ).loc Cert.ProjRwkvIdeal.main_arg2) = m ((c.tc : Thread Cert.ProjRwkvIdeal.nD Cert.ProjRwkvIdeal.τ).loc Cert.ProjRwkvIdeal.main_arg2))
      ∧ θ_run (Cert.ProjRwkvRefIdeal.defs (F := Ideal)) (onTc (τ := Cert.ProjRwkvRefIdeal.τ) (Cert.ProjRwkvRefIdeal.main (F := Ideal))) ⟨m', fun _ => 0, g'⟩ (fun r => ∀ c : Dev Cert.ProjRwkvRefIdeal.nD,
          r.2.mem ((c.tc : Thread Cert.ProjRwkvRefIdeal.nD Cert.ProjRwkvRefIdeal.τ).loc Cert.ProjRwkvRefIdeal.main_v14) = v0 c
          ∧ r.2.mem ((c.tc : Thread Cert.ProjRwkvRefIdeal.nD Cert.ProjRwkvRefIdeal.τ).loc Cert.ProjRwkvRefIdeal.main_arg0) = m' ((c.tc : Thread Cert.ProjRwkvRefIdeal.nD Cert.ProjRwkvRefIdeal.τ).loc Cert.ProjRwkvRefIdeal.main_arg0)
          ∧ r.2.mem ((c.tc : Thread Cert.ProjRwkvRefIdeal.nD Cert.ProjRwkvRefIdeal.τ).loc Cert.ProjRwkvRefIdeal.main_arg1) = m' ((c.tc : Thread Cert.ProjRwkvRefIdeal.nD Cert.ProjRwkvRefIdeal.τ).loc Cert.ProjRwkvRefIdeal.main_arg1)
          ∧ r.2.mem ((c.tc : Thread Cert.ProjRwkvRefIdeal.nD Cert.ProjRwkvRefIdeal.τ).loc Cert.ProjRwkvRefIdeal.main_arg2) = m' ((c.tc : Thread Cert.ProjRwkvRefIdeal.nD Cert.ProjRwkvRefIdeal.τ).loc Cert.ProjRwkvRefIdeal.main_arg2))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)
      ∧ m' ((c.tc : Thread Cert.ProjGateRefIdeal.nD Cert.ProjGateRefIdeal.τ).loc Cert.ProjGateRefIdeal.main_arg2) = m ((c.tc : Thread Cert.ProjGateIdeal.nD Cert.ProjGateIdeal.τ).loc Cert.ProjGateIdeal.main_arg2)) →
    ∃ (v0 : (c : Dev Cert.ProjGateIdeal.nD) → Buf (Elt Ideal) ((c.tc : Thread Cert.ProjGateIdeal.nD Cert.ProjGateIdeal.τ).loc Cert.ProjGateIdeal.main_v3)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v3) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1)
          ∧ r.2.mem ((c.tc : Thread Cert.ProjGateIdeal.nD Cert.ProjGateIdeal.τ).loc Cert.ProjGateIdeal.main_arg2) = m ((c.tc : Thread Cert.ProjGateIdeal.nD Cert.ProjGateIdeal.τ).loc Cert.ProjGateIdeal.main_arg2))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v14) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1)
          ∧ r.2.mem ((c.tc : Thread Cert.ProjGateRefIdeal.nD Cert.ProjGateRefIdeal.τ).loc Cert.ProjGateRefIdeal.main_arg2) = m' ((c.tc : Thread Cert.ProjGateRefIdeal.nD Cert.ProjGateRefIdeal.τ).loc Cert.ProjGateRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v23) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_PleFinal_PleFinalIdeal : Prop :=
  True

def algebraic_PleFinalIdeal_PleFinalRefIdeal [hPleFinalIdeal : Cert.PleFinalIdeal.Facts] [hPleFinalRefIdeal : Cert.PleFinalRefIdeal.Facts] : Prop :=
  ∀ (m : (ℓ : Loc Cert.PleFinalIdeal.nD Cert.PleFinalIdeal.τ Cert.PleFinalIdeal.sig) → Buf (Elt Ideal) ℓ) (g : Dev Cert.PleFinalIdeal.nD → PrngReg)
    (m' : (ℓ : Loc Cert.PleFinalRefIdeal.nD Cert.PleFinalRefIdeal.τ Cert.PleFinalRefIdeal.sig) → Buf (Elt Ideal) ℓ) (g' : Dev Cert.PleFinalRefIdeal.nD → PrngReg), Pre_PleFinalIdeal m →
    (∀ c : Dev Cert.PleFinalIdeal.nD,
      m' ((c.tc : Thread Cert.PleFinalRefIdeal.nD Cert.PleFinalRefIdeal.τ).loc Cert.PleFinalRefIdeal.main_arg0) = m ((c.tc : Thread Cert.PleFinalIdeal.nD Cert.PleFinalIdeal.τ).loc Cert.PleFinalIdeal.main_arg0)
      ∧ m' ((c.tc : Thread Cert.PleFinalRefIdeal.nD Cert.PleFinalRefIdeal.τ).loc Cert.PleFinalRefIdeal.main_arg1) = m ((c.tc : Thread Cert.PleFinalIdeal.nD Cert.PleFinalIdeal.τ).loc Cert.PleFinalIdeal.main_arg1)
      ∧ m' ((c.tc : Thread Cert.PleFinalRefIdeal.nD Cert.PleFinalRefIdeal.τ).loc Cert.PleFinalRefIdeal.main_arg2) = m ((c.tc : Thread Cert.PleFinalIdeal.nD Cert.PleFinalIdeal.τ).loc Cert.PleFinalIdeal.main_arg2)
      ∧ m' ((c.tc : Thread Cert.PleFinalRefIdeal.nD Cert.PleFinalRefIdeal.τ).loc Cert.PleFinalRefIdeal.main_arg3) = m ((c.tc : Thread Cert.PleFinalIdeal.nD Cert.PleFinalIdeal.τ).loc Cert.PleFinalIdeal.main_arg3)
      ∧ m' ((c.tc : Thread Cert.PleFinalRefIdeal.nD Cert.PleFinalRefIdeal.τ).loc Cert.PleFinalRefIdeal.main_arg4) = m ((c.tc : Thread Cert.PleFinalIdeal.nD Cert.PleFinalIdeal.τ).loc Cert.PleFinalIdeal.main_arg4)
      ∧ m' ((c.tc : Thread Cert.PleFinalRefIdeal.nD Cert.PleFinalRefIdeal.τ).loc Cert.PleFinalRefIdeal.main_arg5) = m ((c.tc : Thread Cert.PleFinalIdeal.nD Cert.PleFinalIdeal.τ).loc Cert.PleFinalIdeal.main_arg5)
      ∧ m' ((c.tc : Thread Cert.PleFinalRefIdeal.nD Cert.PleFinalRefIdeal.τ).loc Cert.PleFinalRefIdeal.main_arg6) = m ((c.tc : Thread Cert.PleFinalIdeal.nD Cert.PleFinalIdeal.τ).loc Cert.PleFinalIdeal.main_arg6)) →
    ∃ (v0 : (c : Dev Cert.PleFinalIdeal.nD) → Buf (Elt Ideal) ((c.tc : Thread Cert.PleFinalIdeal.nD Cert.PleFinalIdeal.τ).loc Cert.PleFinalIdeal.main_v5)),
      θ_run (Cert.PleFinalIdeal.defs (F := Ideal)) (onTc (τ := Cert.PleFinalIdeal.τ) (Cert.PleFinalIdeal.main (F := Ideal))) ⟨m, fun _ => 0, g⟩ (fun r => ∀ c : Dev Cert.PleFinalIdeal.nD,
          r.2.mem ((c.tc : Thread Cert.PleFinalIdeal.nD Cert.PleFinalIdeal.τ).loc Cert.PleFinalIdeal.main_v5) = v0 c
          ∧ r.2.mem ((c.tc : Thread Cert.PleFinalIdeal.nD Cert.PleFinalIdeal.τ).loc Cert.PleFinalIdeal.main_arg0) = m ((c.tc : Thread Cert.PleFinalIdeal.nD Cert.PleFinalIdeal.τ).loc Cert.PleFinalIdeal.main_arg0)
          ∧ r.2.mem ((c.tc : Thread Cert.PleFinalIdeal.nD Cert.PleFinalIdeal.τ).loc Cert.PleFinalIdeal.main_arg1) = m ((c.tc : Thread Cert.PleFinalIdeal.nD Cert.PleFinalIdeal.τ).loc Cert.PleFinalIdeal.main_arg1)
          ∧ r.2.mem ((c.tc : Thread Cert.PleFinalIdeal.nD Cert.PleFinalIdeal.τ).loc Cert.PleFinalIdeal.main_arg2) = m ((c.tc : Thread Cert.PleFinalIdeal.nD Cert.PleFinalIdeal.τ).loc Cert.PleFinalIdeal.main_arg2)
          ∧ r.2.mem ((c.tc : Thread Cert.PleFinalIdeal.nD Cert.PleFinalIdeal.τ).loc Cert.PleFinalIdeal.main_arg3) = m ((c.tc : Thread Cert.PleFinalIdeal.nD Cert.PleFinalIdeal.τ).loc Cert.PleFinalIdeal.main_arg3)
          ∧ r.2.mem ((c.tc : Thread Cert.PleFinalIdeal.nD Cert.PleFinalIdeal.τ).loc Cert.PleFinalIdeal.main_arg4) = m ((c.tc : Thread Cert.PleFinalIdeal.nD Cert.PleFinalIdeal.τ).loc Cert.PleFinalIdeal.main_arg4)
          ∧ r.2.mem ((c.tc : Thread Cert.PleFinalIdeal.nD Cert.PleFinalIdeal.τ).loc Cert.PleFinalIdeal.main_arg5) = m ((c.tc : Thread Cert.PleFinalIdeal.nD Cert.PleFinalIdeal.τ).loc Cert.PleFinalIdeal.main_arg5)
          ∧ r.2.mem ((c.tc : Thread Cert.PleFinalIdeal.nD Cert.PleFinalIdeal.τ).loc Cert.PleFinalIdeal.main_arg6) = m ((c.tc : Thread Cert.PleFinalIdeal.nD Cert.PleFinalIdeal.τ).loc Cert.PleFinalIdeal.main_arg6))
      ∧ θ_run (Cert.PleFinalRefIdeal.defs (F := Ideal)) (onTc (τ := Cert.PleFinalRefIdeal.τ) (Cert.PleFinalRefIdeal.main (F := Ideal))) ⟨m', fun _ => 0, g'⟩ (fun r => ∀ c : Dev Cert.PleFinalRefIdeal.nD,
          r.2.mem ((c.tc : Thread Cert.PleFinalRefIdeal.nD Cert.PleFinalRefIdeal.τ).loc Cert.PleFinalRefIdeal.main_v36) = v0 c
          ∧ r.2.mem ((c.tc : Thread Cert.PleFinalRefIdeal.nD Cert.PleFinalRefIdeal.τ).loc Cert.PleFinalRefIdeal.main_arg0) = m' ((c.tc : Thread Cert.PleFinalRefIdeal.nD Cert.PleFinalRefIdeal.τ).loc Cert.PleFinalRefIdeal.main_arg0)
          ∧ r.2.mem ((c.tc : Thread Cert.PleFinalRefIdeal.nD Cert.PleFinalRefIdeal.τ).loc Cert.PleFinalRefIdeal.main_arg1) = m' ((c.tc : Thread Cert.PleFinalRefIdeal.nD Cert.PleFinalRefIdeal.τ).loc Cert.PleFinalRefIdeal.main_arg1)
          ∧ r.2.mem ((c.tc : Thread Cert.PleFinalRefIdeal.nD Cert.PleFinalRefIdeal.τ).loc Cert.PleFinalRefIdeal.main_arg2) = m' ((c.tc : Thread Cert.PleFinalRefIdeal.nD Cert.PleFinalRefIdeal.τ).loc Cert.PleFinalRefIdeal.main_arg2)
          ∧ r.2.mem ((c.tc : Thread Cert.PleFinalRefIdeal.nD Cert.PleFinalRefIdeal.τ).loc Cert.PleFinalRefIdeal.main_arg3) = m' ((c.tc : Thread Cert.PleFinalRefIdeal.nD Cert.PleFinalRefIdeal.τ).loc Cert.PleFinalRefIdeal.main_arg3)
          ∧ r.2.mem ((c.tc : Thread Cert.PleFinalRefIdeal.nD Cert.PleFinalRefIdeal.τ).loc Cert.PleFinalRefIdeal.main_arg4) = m' ((c.tc : Thread Cert.PleFinalRefIdeal.nD Cert.PleFinalRefIdeal.τ).loc Cert.PleFinalRefIdeal.main_arg4)
          ∧ r.2.mem ((c.tc : Thread Cert.PleFinalRefIdeal.nD Cert.PleFinalRefIdeal.τ).loc Cert.PleFinalRefIdeal.main_arg5) = m' ((c.tc : Thread Cert.PleFinalRefIdeal.nD Cert.PleFinalRefIdeal.τ).loc Cert.PleFinalRefIdeal.main_arg5)
          ∧ r.2.mem ((c.tc : Thread Cert.PleFinalRefIdeal.nD Cert.PleFinalRefIdeal.τ).loc Cert.PleFinalRefIdeal.main_arg6) = m' ((c.tc : Thread Cert.PleFinalRefIdeal.nD Cert.PleFinalRefIdeal.τ).loc Cert.PleFinalRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v29) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v48_0)) (v1 : (c : Dev Cert.RopeIdeal.nD) → Buf (Elt Ideal) ((c.tc : Thread Cert.RopeIdeal.nD Cert.RopeIdeal.τ).loc Cert.RopeIdeal.main_v48_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v48_0) = v0 c
          ∧ r.2.mem ((c.tc : Thread Cert.RopeIdeal.nD Cert.RopeIdeal.τ).loc Cert.RopeIdeal.main_v48_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v69) = v0 c
          ∧ r.2.mem ((c.tc : Thread Cert.RopeRefIdeal.nD Cert.RopeRefIdeal.τ).loc Cert.RopeRefIdeal.main_v139) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_PeerQuery_PeerQueryIdeal : Prop :=
  True

def algebraic_PeerQueryIdeal_PeerQueryRefIdeal_pre_query_finite [hPeerQueryIdeal : Cert.PeerQueryIdeal.Facts] [hPeerQueryRefIdeal : Cert.PeerQueryRefIdeal.Facts] [hPre_query_finite : Cert.Pre_query_finite.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal_query_finite m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)
      ∧ m' ((c.tc : Thread Cert.PeerQueryRefIdeal.nD Cert.PeerQueryRefIdeal.τ).loc Cert.PeerQueryRefIdeal.main_arg2) = m ((c.tc : Thread Cert.PeerQueryIdeal.nD Cert.PeerQueryIdeal.τ).loc Cert.PeerQueryIdeal.main_arg2)) →
    ∃ (v0 : (c : Dev Cert.PeerQueryIdeal.nD) → Buf (Elt Ideal) ((c.tc : Thread Cert.PeerQueryIdeal.nD Cert.PeerQueryIdeal.τ).loc Cert.PeerQueryIdeal.main_v5_0)) (v1 : (c : Dev Cert.PeerQueryIdeal.nD) → Buf (Elt Ideal) ((c.tc : Thread Cert.PeerQueryIdeal.nD Cert.PeerQueryIdeal.τ).loc Cert.PeerQueryIdeal.main_v5_1)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v5_0) = v0 c
          ∧ r.2.mem ((c.tc : Thread Cert.PeerQueryIdeal.nD Cert.PeerQueryIdeal.τ).loc Cert.PeerQueryIdeal.main_v5_1) = v1 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1)
          ∧ r.2.mem ((c.tc : Thread Cert.PeerQueryIdeal.nD Cert.PeerQueryIdeal.τ).loc Cert.PeerQueryIdeal.main_arg2) = m ((c.tc : Thread Cert.PeerQueryIdeal.nD Cert.PeerQueryIdeal.τ).loc Cert.PeerQueryIdeal.main_arg2))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v13) = v0 c
          ∧ r.2.mem ((c.tc : Thread Cert.PeerQueryRefIdeal.nD Cert.PeerQueryRefIdeal.τ).loc Cert.PeerQueryRefIdeal.main_v14) = v1 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1)
          ∧ r.2.mem ((c.tc : Thread Cert.PeerQueryRefIdeal.nD Cert.PeerQueryRefIdeal.τ).loc Cert.PeerQueryRefIdeal.main_arg2) = m' ((c.tc : Thread Cert.PeerQueryRefIdeal.nD Cert.PeerQueryRefIdeal.τ).loc Cert.PeerQueryRefIdeal.main_arg2))

def Claim : Prop :=
  ∃ (hBand1 : Cert.Band1.Facts) (hBand1Ideal : Cert.Band1Ideal.Facts) (hBand1RefIdeal : Cert.Band1RefIdeal.Facts) (hProjQkv : Cert.ProjQkv.Facts) (hProjQkvIdeal : Cert.ProjQkvIdeal.Facts) (hProjQkvRefIdeal : Cert.ProjQkvRefIdeal.Facts) (hProjPool : Cert.ProjPool.Facts) (hProjPoolIdeal : Cert.ProjPoolIdeal.Facts) (hProjPoolRefIdeal : Cert.ProjPoolRefIdeal.Facts) (hProjRwkv : Cert.ProjRwkv.Facts) (hProjRwkvIdeal : Cert.ProjRwkvIdeal.Facts) (hProjRwkvRefIdeal : Cert.ProjRwkvRefIdeal.Facts) (hProjGate : Cert.ProjGate.Facts) (hProjGateIdeal : Cert.ProjGateIdeal.Facts) (hProjGateRefIdeal : Cert.ProjGateRefIdeal.Facts) (hPle : Cert.Ple.Facts) (hPleIdeal : Cert.PleIdeal.Facts) (hPleRefIdeal : Cert.PleRefIdeal.Facts) (hPleFinal : Cert.PleFinal.Facts) (hPleFinalIdeal : Cert.PleFinalIdeal.Facts) (hPleFinalRefIdeal : Cert.PleFinalRefIdeal.Facts) (hOutProj : Cert.OutProj.Facts) (hOutProjIdeal : Cert.OutProjIdeal.Facts) (hOutProjRefIdeal : Cert.OutProjRefIdeal.Facts) (hMix : Cert.Mix.Facts) (hMixIdeal : Cert.MixIdeal.Facts) (hMixRefIdeal : Cert.MixRefIdeal.Facts) (hRope : Cert.Rope.Facts) (hRopeIdeal : Cert.RopeIdeal.Facts) (hRopeRefIdeal : Cert.RopeRefIdeal.Facts) (hPeerQuery : Cert.PeerQuery.Facts) (hPeerQueryIdeal : Cert.PeerQueryIdeal.Facts) (hPeerQueryRefIdeal : Cert.PeerQueryRefIdeal.Facts) (hPre_query_finite : Cert.Pre_query_finite.Facts),
    quiescent_Band1 (hBand1 := hBand1)
    ∧ quiescent_Band1Ideal (hBand1Ideal := hBand1Ideal)
    ∧ quiescent_Band1RefIdeal (hBand1RefIdeal := hBand1RefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjPool (hProjPool := hProjPool)
    ∧ quiescent_ProjPoolIdeal (hProjPoolIdeal := hProjPoolIdeal)
    ∧ quiescent_ProjPoolRefIdeal (hProjPoolRefIdeal := hProjPoolRefIdeal)
    ∧ quiescent_ProjRwkv (hProjRwkv := hProjRwkv)
    ∧ quiescent_ProjRwkvIdeal (hProjRwkvIdeal := hProjRwkvIdeal)
    ∧ quiescent_ProjRwkvRefIdeal (hProjRwkvRefIdeal := hProjRwkvRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_Ple (hPle := hPle)
    ∧ quiescent_PleIdeal (hPleIdeal := hPleIdeal)
    ∧ quiescent_PleRefIdeal (hPleRefIdeal := hPleRefIdeal)
    ∧ quiescent_PleFinal (hPleFinal := hPleFinal)
    ∧ quiescent_PleFinalIdeal (hPleFinalIdeal := hPleFinalIdeal)
    ∧ quiescent_PleFinalRefIdeal (hPleFinalRefIdeal := hPleFinalRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Mix (hMix := hMix)
    ∧ quiescent_MixIdeal (hMixIdeal := hMixIdeal)
    ∧ quiescent_MixRefIdeal (hMixRefIdeal := hMixRefIdeal)
    ∧ quiescent_Rope (hRope := hRope)
    ∧ quiescent_RopeIdeal (hRopeIdeal := hRopeIdeal)
    ∧ quiescent_RopeRefIdeal (hRopeRefIdeal := hRopeRefIdeal)
    ∧ quiescent_PeerQuery (hPeerQuery := hPeerQuery)
    ∧ quiescent_PeerQueryIdeal (hPeerQueryIdeal := hPeerQueryIdeal)
    ∧ quiescent_PeerQueryIdeal_pre_query_finite (hPeerQueryIdeal := hPeerQueryIdeal) (hPre_query_finite := hPre_query_finite)
    ∧ quiescent_PeerQueryRefIdeal (hPeerQueryRefIdeal := hPeerQueryRefIdeal)
    ∧ quiescent_PeerQueryRefIdeal_pre_query_finite (hPeerQueryRefIdeal := hPeerQueryRefIdeal) (hPre_query_finite := hPre_query_finite)
    ∧ preserves_Band1_Band1Ideal
    ∧ algebraic_Band1Ideal_Band1RefIdeal (hBand1Ideal := hBand1Ideal) (hBand1RefIdeal := hBand1RefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjPool_ProjPoolIdeal
    ∧ algebraic_ProjPoolIdeal_ProjPoolRefIdeal (hProjPoolIdeal := hProjPoolIdeal) (hProjPoolRefIdeal := hProjPoolRefIdeal)
    ∧ preserves_ProjRwkv_ProjRwkvIdeal
    ∧ algebraic_ProjRwkvIdeal_ProjRwkvRefIdeal (hProjRwkvIdeal := hProjRwkvIdeal) (hProjRwkvRefIdeal := hProjRwkvRefIdeal)
    ∧ preserves_ProjGate_ProjGateIdeal
    ∧ algebraic_ProjGateIdeal_ProjGateRefIdeal (hProjGateIdeal := hProjGateIdeal) (hProjGateRefIdeal := hProjGateRefIdeal)
    ∧ preserves_Ple_PleIdeal
    ∧ algebraic_PleIdeal_PleRefIdeal (hPleIdeal := hPleIdeal) (hPleRefIdeal := hPleRefIdeal)
    ∧ preserves_PleFinal_PleFinalIdeal
    ∧ algebraic_PleFinalIdeal_PleFinalRefIdeal (hPleFinalIdeal := hPleFinalIdeal) (hPleFinalRefIdeal := hPleFinalRefIdeal)
    ∧ preserves_OutProj_OutProjIdeal
    ∧ algebraic_OutProjIdeal_OutProjRefIdeal (hOutProjIdeal := hOutProjIdeal) (hOutProjRefIdeal := hOutProjRefIdeal)
    ∧ preserves_Mix_MixIdeal
    ∧ algebraic_MixIdeal_MixRefIdeal (hMixIdeal := hMixIdeal) (hMixRefIdeal := hMixRefIdeal)
    ∧ preserves_Rope_RopeIdeal
    ∧ algebraic_RopeIdeal_RopeRefIdeal (hRopeIdeal := hRopeIdeal) (hRopeRefIdeal := hRopeRefIdeal)
    ∧ preserves_PeerQuery_PeerQueryIdeal
    ∧ algebraic_PeerQueryIdeal_PeerQueryRefIdeal_pre_query_finite (hPeerQueryIdeal := hPeerQueryIdeal) (hPeerQueryRefIdeal := hPeerQueryRefIdeal) (hPre_query_finite := hPre_query_finite)
-- ==== Pre_query_finite.lean ====
abbrev S8448x2048 : Shape := ⟨2, ![8448, 2048]⟩
abbrev S2048 : Shape := ⟨1, ![2048]⟩
abbrev S2048x2048 : Shape := ⟨2, ![2048, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8448x2048 .f32) (main_arg1 : FVec F S2048 .f32) (main_arg2 : FVec F S2048x2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Band1.lean ====
abbrev S8448x768 : Shape := ⟨2, ![8448, 768]⟩
abbrev S8448x2304 : Shape := ⟨2, ![8448, 2304]⟩
abbrev S2112x3072 : Shape := ⟨2, ![2112, 3072]⟩
abbrev S2112x9216 : Shape := ⟨2, ![2112, 9216]⟩
abbrev S2048x1024 : Shape := ⟨2, ![2048, 1024]⟩
abbrev S128x256 : Shape := ⟨2, ![128, 256]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S8448x768, .f32⟩
  | .hbm, ⟨1, _⟩ => ⟨S8448x768, .f32⟩
  | .hbm, ⟨2, _⟩ => ⟨S8448x2304, .f32⟩
  | .hbm, ⟨3, _⟩ => ⟨S2112x3072, .f32⟩
  | .hbm, ⟨4, _⟩ => ⟨S2112x3072, .f32⟩
  | .hbm, ⟨5, _⟩ => ⟨S2112x9216, .f32⟩
  | .hbm, ⟨6, _⟩ => ⟨S2048x1024, .f32⟩
  | .hbm, ⟨7, _⟩ => ⟨S2048x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S8448x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli arg1 c3_i32
  let c1_i32 : BitVec 32 := 1#32
  let v3 : BitVec 32 := Scalar.addi v2 c1_i32
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli arg1 c3_i32
  let c1_i32 : BitVec 32 := 1#32
  let v3 : BitVec 32 := Scalar.addi v2 c1_i32
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c3_i32 : BitVec 32 := 3#32
  let v4 : BitVec 32 := Scalar.muli arg1 c3_i32
  let c1_i32_0 : BitVec 32 := 1#32
  let v5 : BitVec 32 := Scalar.addi v4 c1_i32_0
  let c0_i32_1 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c9_i32 : BitVec 32 := 9#32
  let v2 : BitVec 32 := Scalar.muli arg1 c9_i32
  let c7_i32 : BitVec 32 := 7#32
  let v3 : BitVec 32 := Scalar.addi v2 c7_i32
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c9_i32 : BitVec 32 := 9#32
  let v4 : BitVec 32 := Scalar.muli arg1 c9_i32
  let c7_i32 : BitVec 32 := 7#32
  let v5 : BitVec 32 := Scalar.addi v4 c7_i32
  let c0_i32_0 : BitVec 32 := 0#32
  ![v3.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Band1RefIdeal.lean ====
abbrev S8448x768 : Shape := ⟨2, ![8448, 768]⟩
abbrev S8448x2304 : Shape := ⟨2, ![8448, 2304]⟩
abbrev S8192x256 : Shape := ⟨2, ![8192, 256]⟩
abbrev S4x2048x4x64 : Shape := ⟨4, ![4, 2048, 4, 64]⟩
abbrev S4x4x2048x2048 : Shape := ⟨4, ![4, 4, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x2048x4 : Shape := ⟨3, ![4, 2048, 4]⟩
abbrev S4x2048x4x1 : Shape := ⟨4, ![4, 2048, 4, 1]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8448x768, .f32⟩
  | .hbm, ⟨1, _⟩ => ⟨S8448x768, .f32⟩
  | .hbm, ⟨2, _⟩ => ⟨S8448x2304, .f32⟩
  | .hbm, ⟨3, _⟩ => ⟨S8192x256, .f32⟩
  | .hbm, ⟨4, _⟩ => ⟨S4x2048x4x64, .f32⟩
  | .hbm, ⟨5, _⟩ => ⟨S8192x256, .f32⟩
  | .hbm, ⟨6, _⟩ => ⟨S4x2048x4x64, .f32⟩
  | .hbm, ⟨7, _⟩ => ⟨S8192x256, .f32⟩
  | .hbm, ⟨8, _⟩ => ⟨S4x2048x4x64, .f32⟩
  | .hbm, ⟨9, _⟩ => ⟨S4x4x2048x2048, .f32⟩
  | .hbm, ⟨10, _⟩ => ⟨S_, .f32⟩
  | .hbm, ⟨11, _⟩ => ⟨S4x4x2048x2048, .f32⟩
  | .hbm, ⟨12, _⟩ => ⟨S4x4x2048x2048, .f32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S2048x2048, .i1⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S2048x2048, .i1⟩
  | .hbm, ⟨30, _⟩ => ⟨S1x1x2048x2048, .i1⟩
  | .hbm, ⟨31, _⟩ => ⟨S_, .f32⟩
  | .hbm, ⟨32, _⟩ => ⟨S_, .f32⟩
  | .hbm, ⟨33, _⟩ => ⟨S4x4x2048x2048, .i1⟩
  | .hbm, ⟨34, _⟩ => ⟨S4x4x2048x2048, .f32⟩
  | .hbm, ⟨35, _⟩ => ⟨S4x4x2048x2048, .f32⟩
  | .hbm, ⟨36, _⟩ => ⟨S_, .f32⟩
  | .hbm, ⟨37, _⟩ => ⟨S4x4x2048, .f32⟩
  | .hbm, ⟨38, _⟩ => ⟨S4x4x2048x1, .f32⟩
  | .hbm, ⟨39, _⟩ => ⟨S4x4x2048x2048, .f32⟩
  | .hbm, ⟨40, _⟩ => ⟨S4x4x2048x2048, .f32⟩
  | .hbm, ⟨41, _⟩ => ⟨S4x4x2048x2048, .f32⟩
  | .hbm, ⟨42, _⟩ => ⟨S_, .f32⟩
  | .hbm, ⟨43, _⟩ => ⟨S4x4x2048, .f32⟩
  | .hbm, ⟨44, _⟩ => ⟨S4x4x2048, .f32⟩
  | .hbm, ⟨45, _⟩ => ⟨S4x4x2048, .f32⟩
  | .hbm, ⟨46, _⟩ => ⟨S4x4x2048, .f32⟩
  | .hbm, ⟨47, _⟩ => ⟨S4x4x64x2048, .f32⟩
  | .hbm, ⟨48, _⟩ => ⟨S4x2048x4x64, .f32⟩
  | .hbm, ⟨49, _⟩ => ⟨S4x2048x4, .f32⟩
  | .hbm, ⟨50, _⟩ => ⟨S4x2048x4x1, .f32⟩
  | .hbm, ⟨51, _⟩ => ⟨S4x2048x4x64, .f32⟩
  | .hbm, ⟨52, _⟩ => ⟨S4x2048x4x64, .f32⟩
  | .hbm, ⟨53, _⟩ => ⟨S4x2048x4, .f32⟩
  | .hbm, ⟨54, _⟩ => ⟨S4x2048x4x1, .f32⟩
  | .hbm, ⟨55, _⟩ => ⟨S4x2048x4x64, .f32⟩
  | .hbm, ⟨56, _⟩ => ⟨S2048x1024, .f32⟩
  | .hbm, ⟨57, _⟩ => ⟨S2048x1024, .f32⟩
  | _, _ => ⟨S8448x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== ProjQkv.lean ====
abbrev S8448x2048 : Shape := ⟨2, ![8448, 2048]⟩
abbrev S2048 : Shape := ⟨1, ![2048]⟩
abbrev S2048x11520 : Shape := ⟨2, ![2048, 11520]⟩
abbrev S2048x2304 : Shape := ⟨2, ![2048, 2304]⟩
abbrev S1x2048 : Shape := ⟨2, ![1, 2048]⟩
abbrev S8448x2304 : Shape := ⟨2, ![8448, 2304]⟩
abbrev S768x2048 : Shape := ⟨2, ![768, 2048]⟩
abbrev S2048x768 : Shape := ⟨2, ![2048, 768]⟩
abbrev S768x768 : Shape := ⟨2, ![768, 768]⟩
abbrev S768 : Shape := ⟨1, ![768]⟩
abbrev S768x1 : Shape := ⟨2, ![768, 1]⟩

abbrev nBuf : Space → Nat
  | .hbm => 7
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S2048x2304, .f32⟩
  | .hbm, ⟨4, _⟩ => ⟨S2048x2304, .bf16⟩
  | .hbm, ⟨5, _⟩ => ⟨S1x2048, .f32⟩
  | .hbm, ⟨6, _⟩ => ⟨S8448x2304, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S768x768, .f32⟩
  | .local _ .vmem, ⟨6, _⟩ => ⟨S768x768, .f32⟩
  | .local _ .vmem, ⟨7, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQkvRefIdeal.lean ====
abbrev S8448x2048 : Shape := ⟨2, ![8448, 2048]⟩
abbrev S2048 : Shape := ⟨1, ![2048]⟩
abbrev S2048x11520 : Shape := ⟨2, ![2048, 11520]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x11520 : Shape := ⟨2, ![8448, 11520]⟩
abbrev S8448x2304 : Shape := ⟨2, ![8448, 2304]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x11520, .f32⟩
  | .hbm, ⟨20, _⟩ => ⟨S8448x2304, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjPool.lean ====
abbrev S8448x2048 : Shape := ⟨2, ![8448, 2048]⟩
abbrev S2048 : Shape := ⟨1, ![2048]⟩
abbrev S2048x11520 : Shape := ⟨2, ![2048, 11520]⟩
abbrev S2048x512 : Shape := ⟨2, ![2048, 512]⟩
abbrev S1x2048 : Shape := ⟨2, ![1, 2048]⟩
abbrev S8448x512 : Shape := ⟨2, ![8448, 512]⟩
abbrev S768x2048 : Shape := ⟨2, ![768, 2048]⟩
abbrev S768x512 : Shape := ⟨2, ![768, 512]⟩
abbrev S768 : Shape := ⟨1, ![768]⟩
abbrev S768x1 : Shape := ⟨2, ![768, 1]⟩

abbrev nBuf : Space → Nat
  | .hbm => 7
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S2048x512, .f32⟩
  | .hbm, ⟨4, _⟩ => ⟨S2048x512, .bf16⟩
  | .hbm, ⟨5, _⟩ => ⟨S1x2048, .f32⟩
  | .hbm, ⟨6, _⟩ => ⟨S8448x512, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x512, .bf16⟩
  | .local _ .vmem, ⟨4, _⟩ => ⟨S768x512, .f32⟩
  | .local _ .vmem, ⟨5, _⟩ => ⟨S768x512, .f32⟩
  | .local _ .vmem, ⟨6, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjPoolRefIdeal.lean ====
abbrev S8448x2048 : Shape := ⟨2, ![8448, 2048]⟩
abbrev S2048 : Shape := ⟨1, ![2048]⟩
abbrev S2048x11520 : Shape := ⟨2, ![2048, 11520]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x11520 : Shape := ⟨2, ![8448, 11520]⟩
abbrev S8448x512 : Shape := ⟨2, ![8448, 512]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x11520, .f32⟩
  | .hbm, ⟨20, _⟩ => ⟨S8448x512, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjRwkv.lean ====
abbrev S8448x2048 : Shape := ⟨2, ![8448, 2048]⟩
abbrev S2048 : Shape := ⟨1, ![2048]⟩
abbrev S2048x11520 : Shape := ⟨2, ![2048, 11520]⟩
abbrev S2048x2560 : Shape := ⟨2, ![2048, 2560]⟩
abbrev S1x2048 : Shape := ⟨2, ![1, 2048]⟩
abbrev S8448x2560 : Shape := ⟨2, ![8448, 2560]⟩
abbrev S768x2048 : Shape := ⟨2, ![768, 2048]⟩
abbrev S2048x1280 : Shape := ⟨2, ![2048, 1280]⟩
abbrev S768x1280 : Shape := ⟨2, ![768, 1280]⟩
abbrev S768 : Shape := ⟨1, ![768]⟩
abbrev S768x1 : Shape := ⟨2, ![768, 1]⟩

abbrev nBuf : Space → Nat
  | .hbm => 7
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S2048x2560, .f32⟩
  | .hbm, ⟨4, _⟩ => ⟨S2048x2560, .bf16⟩
  | .hbm, ⟨5, _⟩ => ⟨S1x2048, .f32⟩
  | .hbm, ⟨6, _⟩ => ⟨S8448x2560, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S768x1280, .f32⟩
  | .local _ .vmem, ⟨6, _⟩ => ⟨S768x1280, .f32⟩
  | .local _ .vmem, ⟨7, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRwkvRefIdeal.lean ====
abbrev S8448x2048 : Shape := ⟨2, ![8448, 2048]⟩
abbrev S2048 : Shape := ⟨1, ![2048]⟩
abbrev S2048x11520 : Shape := ⟨2, ![2048, 11520]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x11520 : Shape := ⟨2, ![8448, 11520]⟩
abbrev S8448x2560 : Shape := ⟨2, ![8448, 2560]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x11520, .f32⟩
  | .hbm, ⟨20, _⟩ => ⟨S8448x2560, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjGate.lean ====
abbrev S8448x2048 : Shape := ⟨2, ![8448, 2048]⟩
abbrev S2048 : Shape := ⟨1, ![2048]⟩
abbrev S2048x11520 : Shape := ⟨2, ![2048, 11520]⟩
abbrev S2048x6144 : Shape := ⟨2, ![2048, 6144]⟩
abbrev S1x2048 : Shape := ⟨2, ![1, 2048]⟩
abbrev S8448x6144 : Shape := ⟨2, ![8448, 6144]⟩
abbrev S768x2048 : Shape := ⟨2, ![768, 2048]⟩
abbrev S2048x768 : Shape := ⟨2, ![2048, 768]⟩
abbrev S768x768 : Shape := ⟨2, ![768, 768]⟩
abbrev S768 : Shape := ⟨1, ![768]⟩
abbrev S768x1 : Shape := ⟨2, ![768, 1]⟩

abbrev nBuf : Space → Nat
  | .hbm => 7
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S2048x6144, .f32⟩
  | .hbm, ⟨4, _⟩ => ⟨S2048x6144, .bf16⟩
  | .hbm, ⟨5, _⟩ => ⟨S1x2048, .f32⟩
  | .hbm, ⟨6, _⟩ => ⟨S8448x6144, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S768x768, .f32⟩
  | .local _ .vmem, ⟨6, _⟩ => ⟨S768x768, .f32⟩
  | .local _ .vmem, ⟨7, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjGateRefIdeal.lean ====
abbrev S8448x2048 : Shape := ⟨2, ![8448, 2048]⟩
abbrev S2048 : Shape := ⟨1, ![2048]⟩
abbrev S2048x11520 : Shape := ⟨2, ![2048, 11520]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x11520 : Shape := ⟨2, ![8448, 11520]⟩
abbrev S8448x6144 : Shape := ⟨2, ![8448, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11520, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x11520, .f32⟩
  | .hbm, ⟨20, _⟩ => ⟨S8448x6144, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ple.lean ====
abbrev S8448x2048 : Shape := ⟨2, ![8448, 2048]⟩
abbrev S8448x256 : Shape := ⟨2, ![8448, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S8448x256, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .bf16⟩
  | .local _ .vmem, ⟨5, _⟩ => ⟨S256x256, .bf16⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S8448x2048 : Shape := ⟨2, ![8448, 2048]⟩
abbrev S8448x256 : Shape := ⟨2, ![8448, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S8448x2048, .f32⟩
  | .hbm, ⟨8, _⟩ => ⟨S8448x2048, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x2048, .f32⟩
  | .hbm, ⟨20, _⟩ => ⟨S8448x2048, .f32⟩
  | .hbm, ⟨21, _⟩ => ⟨S1x2048, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S8448x2048, .f32⟩
  | .hbm, ⟨27, _⟩ => ⟨S_, .f32⟩
  | .hbm, ⟨28, _⟩ => ⟨S8448x2048, .f32⟩
  | .hbm, ⟨29, _⟩ => ⟨S8448x2048, .f32⟩
  | .hbm, ⟨30, _⟩ => ⟨S_, .f32⟩
  | .hbm, ⟨31, _⟩ => ⟨S8448x2048, .f32⟩
  | .hbm, ⟨32, _⟩ => ⟨S8448x2048, .f32⟩
  | .hbm, ⟨33, _⟩ => ⟨S8448x2048, .f32⟩
  | .hbm, ⟨34, _⟩ => ⟨S8448x2048, .f32⟩
  | .hbm, ⟨35, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== PleFinal.lean ====
abbrev S8448x2048 : Shape := ⟨2, ![8448, 2048]⟩
abbrev S8448x256 : Shape := ⟨2, ![8448, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S8448x256, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .bf16⟩
  | .local _ .vmem, ⟨5, _⟩ => ⟨S256x256, .bf16⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleFinalRefIdeal.lean ====
abbrev S8448x2048 : Shape := ⟨2, ![8448, 2048]⟩
abbrev S8448x256 : Shape := ⟨2, ![8448, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S8448x2048, .f32⟩
  | .hbm, ⟨8, _⟩ => ⟨S8448x2048, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x2048, .f32⟩
  | .hbm, ⟨20, _⟩ => ⟨S8448x2048, .f32⟩
  | .hbm, ⟨21, _⟩ => ⟨S1x2048, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S8448x2048, .f32⟩
  | .hbm, ⟨27, _⟩ => ⟨S_, .f32⟩
  | .hbm, ⟨28, _⟩ => ⟨S8448x2048, .f32⟩
  | .hbm, ⟨29, _⟩ => ⟨S8448x2048, .f32⟩
  | .hbm, ⟨30, _⟩ => ⟨S_, .f32⟩
  | .hbm, ⟨31, _⟩ => ⟨S8448x2048, .f32⟩
  | .hbm, ⟨32, _⟩ => ⟨S8448x2048, .f32⟩
  | .hbm, ⟨33, _⟩ => ⟨S8448x2048, .f32⟩
  | .hbm, ⟨34, _⟩ => ⟨S8448x2048, .f32⟩
  | .hbm, ⟨35, _⟩ => ⟨S8448x2048, .f32⟩
  | .hbm, ⟨36, _⟩ => ⟨S8448x2048, .f32⟩
  | .hbm, ⟨37, _⟩ => ⟨S_, .f32⟩
  | .hbm, ⟨38, _⟩ => ⟨S8448, .f32⟩
  | .hbm, ⟨39, _⟩ => ⟨S8448x1, .f32⟩
  | .hbm, ⟨40, _⟩ => ⟨S_, .f32⟩
  | .hbm, ⟨41, _⟩ => ⟨S8448x1, .f32⟩
  | .hbm, ⟨42, _⟩ => ⟨S8448x1, .f32⟩
  | .hbm, ⟨43, _⟩ => ⟨S_, .f32⟩
  | .hbm, ⟨44, _⟩ => ⟨S8448x1, .f32⟩
  | .hbm, ⟨45, _⟩ => ⟨S8448x1, .f32⟩
  | .hbm, ⟨46, _⟩ => ⟨S8448x1, .f32⟩
  | .hbm, ⟨47, _⟩ => ⟨S8448x2048, .f32⟩
  | .hbm, ⟨48, _⟩ => ⟨S8448x2048, .f32⟩
  | .hbm, ⟨49, _⟩ => ⟨S1x2048, .f32⟩
  | .hbm, ⟨50, _⟩ => ⟨S8448x2048, .f32⟩
  | .hbm, ⟨51, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== OutProj.lean ====
abbrev S8448x2048 : Shape := ⟨2, ![8448, 2048]⟩
abbrev S2048x2048 : Shape := ⟨2, ![2048, 2048]⟩
abbrev S384x2048 : Shape := ⟨2, ![384, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2048x2048, .f32⟩
  | .hbm, ⟨3, _⟩ => ⟨S2048x2048, .bf16⟩
  | .hbm, ⟨4, _⟩ => ⟨S8448x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .bf16⟩
  | .local _ .vmem, ⟨3, _⟩ => ⟨S384x2048, .bf16⟩
  | .local _ .vmem, ⟨4, _⟩ => ⟨S2048x2048, .bf16⟩
  | .local _ .vmem, ⟨5, _⟩ => ⟨S384x2048, .f32⟩
  | .local _ .vmem, ⟨6, _⟩ => ⟨S384x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S8448x2048 : Shape := ⟨2, ![8448, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .bf16⟩
  | .hbm, ⟨2, _⟩ => ⟨S2048x2048, .f32⟩
  | .hbm, ⟨3, _⟩ => ⟨S8448x2048, .f32⟩
  | .hbm, ⟨4, _⟩ => ⟨S8448x2048, .f32⟩
  | .hbm, ⟨5, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Mix.lean ====
abbrev S8448x256 : Shape := ⟨2, ![8448, 256]⟩
abbrev S8448x512 : Shape := ⟨2, ![8448, 512]⟩
abbrev S8448x768 : Shape := ⟨2, ![8448, 768]⟩
abbrev S8448x6144 : Shape := ⟨2, ![8448, 6144]⟩
abbrev S768 : Shape := ⟨1, ![768]⟩
abbrev S256x2048 : Shape := ⟨2, ![256, 2048]⟩
abbrev S512x2048 : Shape := ⟨2, ![512, 2048]⟩
abbrev S768x2048 : Shape := ⟨2, ![768, 2048]⟩
abbrev S1x768 : Shape := ⟨2, ![1, 768]⟩
abbrev S8448x2048 : Shape := ⟨2, ![8448, 2048]⟩
abbrev S384x256 : Shape := ⟨2, ![384, 256]⟩
abbrev S384x512 : Shape := ⟨2, ![384, 512]⟩
abbrev S384x768 : Shape := ⟨2, ![384, 768]⟩
abbrev S384x6144 : Shape := ⟨2, ![384, 6144]⟩
abbrev S384x2048 : Shape := ⟨2, ![384, 2048]⟩

abbrev nBuf : Space → Nat
  | .hbm => 17
  | .vmem => 19
  | .smem => 0
  | _ => 0

abbrev bufTy : (tb : Table) → Fin (tcTables nBuf tb) → BufTy
  | .hbm, ⟨0, _⟩ => ⟨S8448x256, .f32⟩
  | .hbm, ⟨1, _⟩ => ⟨S8448x512, .f32⟩
  | .hbm, ⟨2, _⟩ => ⟨S8448x768, .f32⟩
  | .hbm, ⟨3, _⟩ => ⟨S8448x768, .f32⟩
  | .hbm, ⟨4, _⟩ => ⟨S8448x768, .f32⟩
  | .hbm, ⟨5, _⟩ => ⟨S8448x6144, .f32⟩
  | .hbm, ⟨6, _⟩ => ⟨S768, .f32⟩
  | .hbm, ⟨7, _⟩ => ⟨S768, .f32⟩
  | .hbm, ⟨8, _⟩ => ⟨S256x2048, .f32⟩
  | .hbm, ⟨9, _⟩ => ⟨S512x2048, .f32⟩
  | .hbm, ⟨10, _⟩ => ⟨S768x2048, .f32⟩
  | .hbm, ⟨11, _⟩ => ⟨S256x2048, .bf16⟩
  | .hbm, ⟨12, _⟩ => ⟨S512x2048, .bf16⟩
  | .hbm, ⟨13, _⟩ => ⟨S768x2048, .bf16⟩
  | .hbm, ⟨14, _⟩ => ⟨S1x768, .f32⟩
  | .hbm, ⟨15, _⟩ => ⟨S1x768, .f32⟩
  | .hbm, ⟨16, _⟩ => ⟨S8448x2048, .bf16⟩
  | .local _ .vmem, ⟨0, _⟩ => ⟨S384x256, .f32⟩
  | .local _ .vmem, ⟨1, _⟩ => ⟨S384x256, .f32⟩
  | .local _ .vmem, ⟨2, _⟩ => ⟨S384x512, .f32⟩
  | .local _ .vmem, ⟨3, _⟩ => ⟨S384x512, .f32⟩
  | .local _ .vmem, ⟨4, _⟩ => ⟨S384x768, .f32⟩
  | .local _ .vmem, ⟨5, _⟩ => ⟨S384x768, .f32⟩
  | .local _ .vmem, ⟨6, _⟩ => ⟨S384x768, .f32⟩
  | .local _ .vmem, ⟨7, _⟩ => ⟨S384x768, .f32⟩
  | .local _ .vmem, ⟨8, _⟩ => ⟨S384x768, .f32⟩
  | .local _ .vmem, ⟨9, _⟩ => ⟨S384x768, .f32⟩
  | .local _ .vmem, ⟨10, _⟩ => ⟨S384x6144, .f32⟩
  | .local _ .vmem, ⟨11, _⟩ => ⟨S384x6144, .f32⟩
  | .local _ .vmem, ⟨12, _⟩ => ⟨S1x768, .f32⟩
  | .local _ .vmem, ⟨13, _⟩ => ⟨S1x768, .f32⟩
  | .local _ .vmem, ⟨14, _⟩ => ⟨S256x2048, .bf16⟩
  | .local _ .vmem, ⟨15, _⟩ => ⟨S512x2048, .bf16⟩
  | .local _ .vmem, ⟨16, _⟩ => ⟨S768x2048, .bf16⟩
  | .local _ .vmem, ⟨17, _⟩ => ⟨S384x2048, .bf16⟩
  | .local _ .vmem, ⟨18, _⟩ => ⟨S384x2048, .bf16⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S384x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixRefIdeal.lean ====
abbrev S8448x256 : Shape := ⟨2, ![8448, 256]⟩
abbrev S8448x512 : Shape := ⟨2, ![8448, 512]⟩
abbrev S8448x768 : Shape := ⟨2, ![8448, 768]⟩
abbrev S8448x6144 : Shape := ⟨2, ![8448, 6144]⟩
abbrev S768 : Shape := ⟨1, ![768]⟩
abbrev S256x2048 : Shape := ⟨2, ![256, 2048]⟩
abbrev S512x2048 : Shape := ⟨2, ![512, 2048]⟩
abbrev S768x2048 : Shape := ⟨2, ![768, 2048]⟩
abbrev S1x768 : Shape := ⟨2, ![1, 768]⟩
abbrev S_ : Shape := ⟨0, ![]⟩
abbrev S8448x3x2048 : Shape := ⟨3, ![8448, 3, 2048]⟩
abbrev S8448x1x2048 : Shape := ⟨3, ![8448, 1, 2048]⟩
abbrev S8448x2048 : Shape := ⟨2, ![8448, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S8448x512, .f32⟩
  | .hbm, ⟨2, _⟩ => ⟨S8448x768, .f32⟩
  | .hbm, ⟨3, _⟩ => ⟨S8448x768, .f32⟩
  | .hbm, ⟨4, _⟩ => ⟨S8448x768, .f32⟩
  | .hbm, ⟨5, _⟩ => ⟨S8448x6144, .f32⟩
  | .hbm, ⟨6, _⟩ => ⟨S768, .f32⟩
  | .hbm, ⟨7, _⟩ => ⟨S768, .f32⟩
  | .hbm, ⟨8, _⟩ => ⟨S256x2048, .f32⟩
  | .hbm, ⟨9, _⟩ => ⟨S512x2048, .f32⟩
  | .hbm, ⟨10, _⟩ => ⟨S768x2048, .f32⟩
  | .hbm, ⟨11, _⟩ => ⟨S1x768, .f32⟩
  | .hbm, ⟨12, _⟩ => ⟨S8448x768, .f32⟩
  | .hbm, ⟨13, _⟩ => ⟨S8448x768, .f32⟩
  | .hbm, ⟨14, _⟩ => ⟨S1x768, .f32⟩
  | .hbm, ⟨15, _⟩ => ⟨S8448x768, .f32⟩
  | .hbm, ⟨16, _⟩ => ⟨S8448x768, .f32⟩
  | .hbm, ⟨17, _⟩ => ⟨S8448x768, .f32⟩
  | .hbm, ⟨18, _⟩ => ⟨S8448x768, .f32⟩
  | .hbm, ⟨19, _⟩ => ⟨S8448x6144, .f32⟩
  | .hbm, ⟨20, _⟩ => ⟨S8448x6144, .f32⟩
  | .hbm, ⟨21, _⟩ => ⟨S_, .f32⟩
  | .hbm, ⟨22, _⟩ => ⟨S8448x6144, .f32⟩
  | .hbm, ⟨23, _⟩ => ⟨S8448x6144, .f32⟩
  | .hbm, ⟨24, _⟩ => ⟨S_, .f32⟩
  | .hbm, ⟨25, _⟩ => ⟨S8448x6144, .f32⟩
  | .hbm, ⟨26, _⟩ => ⟨S8448x6144, .f32⟩
  | .hbm, ⟨27, _⟩ => ⟨S8448x3x2048, .f32⟩
  | .hbm, ⟨28, _⟩ => ⟨S8448x1x2048, .f32⟩
  | .hbm, ⟨29, _⟩ => ⟨S8448x2048, .f32⟩
  | .hbm, ⟨30, _⟩ => ⟨S8448x2048, .f32⟩
  | .hbm, ⟨31, _⟩ => ⟨S8448x2048, .f32⟩
  | .hbm, ⟨32, _⟩ => ⟨S8448x1x2048, .f32⟩
  | .hbm, ⟨33, _⟩ => ⟨S8448x2048, .f32⟩
  | .hbm, ⟨34, _⟩ => ⟨S8448x2048, .f32⟩
  | .hbm, ⟨35, _⟩ => ⟨S8448x2048, .f32⟩
  | .hbm, ⟨36, _⟩ => ⟨S8448x2048, .f32⟩
  | .hbm, ⟨37, _⟩ => ⟨S8448x1x2048, .f32⟩
  | .hbm, ⟨38, _⟩ => ⟨S8448x2048, .f32⟩
  | .hbm, ⟨39, _⟩ => ⟨S8448x2048, .f32⟩
  | .hbm, ⟨40, _⟩ => ⟨S8448x2048, .f32⟩
  | .hbm, ⟨41, _⟩ => ⟨S8448x2048, .f32⟩
  | .hbm, ⟨42, _⟩ => ⟨S8448x2048, .bf16⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Rope.lean ====
abbrev S8448x2304 : Shape := ⟨2, ![8448, 2304]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8 : Shape := ⟨1, ![8]⟩
abbrev S8x1 : Shape := ⟨2, ![8, 1]⟩
abbrev S8x32 : Shape := ⟨2, ![8, 32]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S2304x128 : Shape := ⟨2, ![2304, 128]⟩
abbrev S8448x768 : Shape := ⟨2, ![8448, 768]⟩
abbrev S256x768 : Shape := ⟨2, ![256, 768]⟩

abbrev nBuf : Space → Nat
  | .hbm => 56
  | .vmem => 12
  | .smem => 0
  | _ => 0

abbrev bufTy : (tb : Table) → Fin (tcTables nBuf tb) → BufTy
  | .hbm, ⟨0, _⟩ => ⟨S8448x2304, .f32⟩
  | .hbm, ⟨1, _⟩ => ⟨S2048, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x128, .f32⟩
  | .hbm, ⟨19, _⟩ => ⟨S2048x32, .f32⟩
  | .hbm, ⟨20, _⟩ => ⟨S2048x32, .f32⟩
  | .hbm, ⟨21, _⟩ => ⟨S2048x128, .f32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S8, .f32⟩
  | .hbm, ⟨35, _⟩ => ⟨S8x1, .f32⟩
  | .hbm, ⟨36, _⟩ => ⟨S1x32, .f32⟩
  | .hbm, ⟨37, _⟩ => ⟨S8x32, .f32⟩
  | .hbm, ⟨38, _⟩ => ⟨S8x32, .f32⟩
  | .hbm, ⟨39, _⟩ => ⟨S8x32, .f32⟩
  | .hbm, ⟨40, _⟩ => ⟨S8x32, .f32⟩
  | .hbm, ⟨41, _⟩ => ⟨S8x32, .f32⟩
  | .hbm, ⟨42, _⟩ => ⟨S8x128, .f32⟩
  | .hbm, ⟨43, _⟩ => ⟨S8x32, .f32⟩
  | .hbm, ⟨44, _⟩ => ⟨S8x32, .f32⟩
  | .hbm, ⟨45, _⟩ => ⟨S8x128, .f32⟩
  | .hbm, ⟨46, _⟩ => ⟨S1x8x1x128, .f32⟩
  | .hbm, ⟨47, _⟩ => ⟨S32x8x1x128, .f32⟩
  | .hbm, ⟨48, _⟩ => ⟨S256x128, .f32⟩
  | .hbm, ⟨49, _⟩ => ⟨S2304x128, .f32⟩
  | .hbm, ⟨50, _⟩ => ⟨S1x8x1x128, .f32⟩
  | .hbm, ⟨51, _⟩ => ⟨S32x8x1x128, .f32⟩
  | .hbm, ⟨52, _⟩ => ⟨S256x128, .f32⟩
  | .hbm, ⟨53, _⟩ => ⟨S2304x128, .f32⟩
  | .hbm, ⟨54, _⟩ => ⟨S8448x768, .f32⟩
  | .hbm, ⟨55, _⟩ => ⟨S8448x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | _, _ => ⟨S8448x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48_0 : Ref sig .tc := ⟨.hbm, 54, rfl⟩
abbrev main_v48_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeRefIdeal.lean ====
abbrev S8448x2304 : Shape := ⟨2, ![8448, 2304]⟩
abbrev S8448x768 : Shape := ⟨2, ![8448, 768]⟩
abbrev S8192x768 : Shape := ⟨2, ![8192, 768]⟩
abbrev S4x2048x12x64 : Shape := ⟨4, ![4, 2048, 12, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x12x32 : Shape := ⟨4, ![4, 2048, 12, 32]⟩
abbrev S256x768 : Shape := ⟨2, ![256, 768]⟩
abbrev S32x8x12x64 : Shape := ⟨4, ![32, 8, 12, 64]⟩
abbrev S8 : Shape := ⟨1, ![8]⟩
abbrev S8x1 : Shape := ⟨2, ![8, 1]⟩
abbrev S8x32 : Shape := ⟨2, ![8, 32]⟩
abbrev S1x8x1x32 : Shape := ⟨4, ![1, 8, 1, 32]⟩
abbrev S32x8x12x32 : Shape := ⟨4, ![32, 8, 12, 32]⟩

abbrev nBuf : Space → Nat
  | .hbm => 151
  | .vmem => 0
  | .smem => 0
  | _ => 0

abbrev hbmTy0_0 (i : Nat) : BufTy := match i % 128 with
  | 0 => ⟨S8448x2304, .f32⟩
  | 1 => ⟨S8448x768, .f32⟩
  | 2 => ⟨S8192x768, .f32⟩
  | 3 => ⟨S4x2048x12x64, .f32⟩
  | 4 => ⟨S2048, .i32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S2048, .f32⟩
  | 14 => ⟨S2048x1, .f32⟩
  | 15 => ⟨S1x32, .f32⟩
  | 16 => ⟨S2048x32, .f32⟩
  | 17 => ⟨S2048x32, .f32⟩
  | 18 => ⟨S2048x32, .f32⟩
  | 19 => ⟨S2048x32, .f32⟩
  | 20 => ⟨S1x2048x1x32, .f32⟩
  | 21 => ⟨S2048x32, .f32⟩
  | 22 => ⟨S1x2048x1x32, .f32⟩
  | 23 => ⟨S4x2048x12x32, .f32⟩
  | 24 => ⟨S4x2048x12x32, .f32⟩
  | 25 => ⟨S4x2048x12x32, .f32⟩
  | 26 => ⟨S4x2048x12x32, .f32⟩
  | 27 => ⟨S4x2048x12x32, .f32⟩
  | 28 => ⟨S4x2048x12x32, .f32⟩
  | 29 => ⟨S4x2048x12x32, .f32⟩
  | 30 => ⟨S4x2048x12x32, .f32⟩
  | 31 => ⟨S4x2048x12x32, .f32⟩
  | 32 => ⟨S4x2048x12x32, .f32⟩
  | 33 => ⟨S4x2048x12x32, .f32⟩
  | 34 => ⟨S4x2048x12x32, .f32⟩
  | 35 => ⟨S4x2048x12x64, .f32⟩
  | 36 => ⟨S256x768, .f32⟩
  | 37 => ⟨S32x8x12x64, .f32⟩
  | 38 => ⟨S8, .i32⟩
  | 39 => ⟨S_, .i32⟩
  | 40 => ⟨S8, .i32⟩
  | 41 => ⟨S8, .i32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S8, .f32⟩
  | 51 => ⟨S8x1, .f32⟩
  | 52 => ⟨S1x32, .f32⟩
  | 53 => ⟨S8x32, .f32⟩
  | 54 => ⟨S8x32, .f32⟩
  | 55 => ⟨S8x32, .f32⟩
  | 56 => ⟨S8x32, .f32⟩
  | 57 => ⟨S1x8x1x32, .f32⟩
  | 58 => ⟨S8x32, .f32⟩
  | 59 => ⟨S1x8x1x32, .f32⟩
  | 60 => ⟨S32x8x12x32, .f32⟩
  | 61 => ⟨S32x8x12x32, .f32⟩
  | 62 => ⟨S32x8x12x32, .f32⟩
  | 63 => ⟨S32x8x12x32, .f32⟩
  | 64 => ⟨S32x8x12x32, .f32⟩
  | 65 => ⟨S32x8x12x32, .f32⟩
  | 66 => ⟨S32x8x12x32, .f32⟩
  | 67 => ⟨S32x8x12x32, .f32⟩
  | 68 => ⟨S32x8x12x32, .f32⟩
  | 69 => ⟨S32x8x12x32, .f32⟩
  | 70 => ⟨S32x8x12x32, .f32⟩
  | 71 => ⟨S32x8x12x32, .f32⟩
  | 72 => ⟨S32x8x12x64, .f32⟩
  | 73 => ⟨S8192x768, .f32⟩
  | 74 => ⟨S256x768, .f32⟩
  | 75 => ⟨S8448x768, .f32⟩
  | 76 => ⟨S8448x768, .f32⟩
  | 77 => ⟨S8192x768, .f32⟩
  | 78 => ⟨S4x2048x12x64, .f32⟩
  | 79 => ⟨S2048, .i32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S2048, .f32⟩
  | 89 => ⟨S2048x1, .f32⟩
  | 90 => ⟨S1x32, .f32⟩
  | 91 => ⟨S2048x32, .f32⟩
  | 92 => ⟨S2048x32, .f32⟩
  | 93 => ⟨S2048x32, .f32⟩
  | 94 => ⟨S2048x32, .f32⟩
  | 95 => ⟨S1x2048x1x32, .f32⟩
  | 96 => ⟨S2048x32, .f32⟩
  | 97 => ⟨S1x2048x1x32, .f32⟩
  | 98 => ⟨S4x2048x12x32, .f32⟩
  | 99 => ⟨S4x2048x12x32, .f32⟩
  | 100 => ⟨S4x2048x12x32, .f32⟩
  | 101 => ⟨S4x2048x12x32, .f32⟩
  | 102 => ⟨S4x2048x12x32, .f32⟩
  | 103 => ⟨S4x2048x12x32, .f32⟩
  | 104 => ⟨S4x2048x12x32, .f32⟩
  | 105 => ⟨S4x2048x12x32, .f32⟩
  | 106 => ⟨S4x2048x12x32, .f32⟩
  | 107 => ⟨S4x2048x12x32, .f32⟩
  | 108 => ⟨S4x2048x12x32, .f32⟩
  | 109 => ⟨S4x2048x12x32, .f32⟩
  | 110 => ⟨S4x2048x12x64, .f32⟩
  | 111 => ⟨S256x768, .f32⟩
  | 112 => ⟨S32x8x12x64, .f32⟩
  | 113 => ⟨S8, .i32⟩
  | 114 => ⟨S_, .i32⟩
  | 115 => ⟨S8, .i32⟩
  | 116 => ⟨S8, .i32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S8, .f32⟩
  | 126 => ⟨S8x1, .f32⟩
  | 127 => ⟨S1x32, .f32⟩
  | _ => ⟨S8448x2304, .f32⟩

abbrev hbmTy0_1 (i : Nat) : BufTy := match i % 128 with
  | 0 => ⟨S8x32, .f32⟩
  | 1 => ⟨S8x32, .f32⟩
  | 2 => ⟨S8x32, .f32⟩
  | 3 => ⟨S8x32, .f32⟩
  | 4 => ⟨S1x8x1x32, .f32⟩
  | 5 => ⟨S8x32, .f32⟩
  | 6 => ⟨S1x8x1x32, .f32⟩
  | 7 => ⟨S32x8x12x32, .f32⟩
  | 8 => ⟨S32x8x12x32, .f32⟩
  | 9 => ⟨S32x8x12x32, .f32⟩
  | 10 => ⟨S32x8x12x32, .f32⟩
  | 11 => ⟨S32x8x12x32, .f32⟩
  | 12 => ⟨S32x8x12x32, .f32⟩
  | 13 => ⟨S32x8x12x32, .f32⟩
  | 14 => ⟨S32x8x12x32, .f32⟩
  | 15 => ⟨S32x8x12x32, .f32⟩
  | 16 => ⟨S32x8x12x32, .f32⟩
  | 17 => ⟨S32x8x12x32, .f32⟩
  | 18 => ⟨S32x8x12x32, .f32⟩
  | 19 => ⟨S32x8x12x64, .f32⟩
  | 20 => ⟨S8192x768, .f32⟩
  | 21 => ⟨S256x768, .f32⟩
  | 22 => ⟨S8448x768, .f32⟩
  | _ => ⟨S8448x2304, .f32⟩

abbrev hbmTy (i : Nat) : BufTy := match i / 128 with
  | 0 => hbmTy0_0 i
  | 1 => hbmTy0_1 i
  | _ => ⟨S8448x2304, .f32⟩

abbrev bufTy : (tb : Table) → Fin (tcTables nBuf tb) → BufTy
  | .hbm, ⟨i, _⟩ => hbmTy i
  | _, _ => ⟨S8448x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_c : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_cst_3 : Ref sig .tc := ⟨.hbm, 82, rfl⟩
abbrev main_v76 : Ref sig .tc := ⟨.hbm, 83, rfl⟩
abbrev main_v77 : Ref sig .tc := ⟨.hbm, 84, rfl⟩
abbrev main_cst_4 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_c_5 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_cst_6 : Ref sig .tc := ⟨.hbm, 119, rfl⟩
abbrev main_v110 : Ref sig .tc := ⟨.hbm, 120, rfl⟩
abbrev main_v111 : Ref sig .tc := ⟨.hbm, 121, rfl⟩
abbrev main_cst_7 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩

abbrev nD : Nat := 1
abbrev τ : Topo := Topo.v7x

variable {F : FTy → Type} [FloatOps F]
-- ==== PeerQuery.lean ====
abbrev S8448x2048 : Shape := ⟨2, ![8448, 2048]⟩
abbrev S2048 : Shape := ⟨1, ![2048]⟩
abbrev S2048x2048 : Shape := ⟨2, ![2048, 2048]⟩
abbrev S1x2048 : Shape := ⟨2, ![1, 2048]⟩
abbrev S768x2048 : Shape := ⟨2, ![768, 2048]⟩
abbrev S2048x512 : Shape := ⟨2, ![2048, 512]⟩
abbrev S768x512 : Shape := ⟨2, ![768, 512]⟩
abbrev S768 : Shape := ⟨1, ![768]⟩
abbrev S768x1 : Shape := ⟨2, ![768, 1]⟩

abbrev nBuf : Space → Nat
  | .hbm => 10
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8448x2048, .f32⟩
  | .hbm, ⟨9, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S768x512, .f32⟩
  | .local _ .vmem, ⟨8, _⟩ => ⟨S768x512, .f32⟩
  | .local _ .vmem, ⟨9, _⟩ => ⟨S768x2048, .bf16⟩
  | .local _ .vmem, ⟨10, _⟩ => ⟨S768x2048, .bf16⟩
  | .local _ .vmem, ⟨11, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== PeerQueryRefIdeal.lean ====
abbrev S8448x2048 : Shape := ⟨2, ![8448, 2048]⟩
abbrev S2048 : Shape := ⟨1, ![2048]⟩
abbrev S2048x2048 : Shape := ⟨2, ![2048, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Query.Ideal.lean ====
/- The run of the query projection: what its body leaves at each point of the grid. The normalised rows of a block are
   stored at the first point of the block's four, and kept at the other three. -/
module

public import proofs.«01_k».proof.Proof.Gen.PeerQueryIdeal.Frame
public import proofs.«01_k».proof.Proof.Gen.PeerQueryIdeal.Skeleton
public import Idealize.ShloMosaic.Lib.VecWindow
public import Idealize.ShloMosaic.Lib.Claim

@[expose] public section

set_option maxRecDepth 16384

noncomputable section

namespace Cert.PeerQueryIdeal.Hand

open Cert.PeerQueryIdeal Cert.PeerQueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Whether the body normalises the rows, from the grid's coordinates. -/
abbrev first (i : grid0.Coords) : Prop := k0_cond1 i = 1#1

/-- It does at every fourth point. -/
theorem first_iff (t : Fin grid0.N) : first (grid0.coords t) ↔ t.val % 4 = 0 := by
  have ht : t.val < 44 := Nat.lt_of_lt_of_eq t.isLt N_0
  have e1 : (grid0.coords t 1).val = t.val / 1 % 4 := Pipeline.Grid.coords_val t 1 (by decide) rfl
  simp only [first, k0_cond1, e1]
  word_cmp

section Body
variable (c : Dev nD) (i : grid0.Coords)
    (a2 : Memref sig .tc .vmem S768x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S2048x512 .bf16) (h5 : a5.IsWhole)
    (a6 : Memref sig .tc .vmem S768x512 .f32) (h6 : a6.IsWhole) (a7 : Memref sig .tc .vmem S768x2048 .bf16) (h7 : a7.IsWhole)
    (a8 : Memref sig .tc .vmem S768x2048 .bf16) (h8 : a8.IsWhole)
    (x : Vec F S768x2048 .f32) (g : Vec F S1x2048 .f32) (wh wl : Vec F S2048x512 .bf16) (xh xl : Vec F S768x2048 .bf16)
    (K : PUnit → sProp (MT nD τ sig Unit (Elt F) ℕ (UR sig nD τ) ℕ))

/-- The body where the rows are normalised: the buffer of the rows, that of their remainders and that of the products
    hold what is computed of the inputs. -/
theorem body_first (hc : first i) :
    iprop(owns (c : Thread nD τ) a2 fullShare x ∗ owns (c : Thread nD τ) a3 fullShare g
        ∗ owns (c : Thread nD τ) a4 fullShare wh ∗ owns (c : Thread nD τ) a5 fullShare wl
        ∗ (∃ d, owns (c : Thread nD τ) a6 fullShare d) ∗ (∃ d, owns (c : Thread nD τ) a7 fullShare d)
        ∗ (∃ d, owns (c : Thread nD τ) a8 fullShare d)
        ∗ (iprop(owns (c : Thread nD τ) a2 fullShare x ∗ owns (c : Thread nD τ) a3 fullShare g
            ∗ owns (c : Thread nD τ) a4 fullShare wh ∗ owns (c : Thread nD τ) a5 fullShare wl
            ∗ owns (c : Thread nD τ) a6 fullShare (k0_pay4 (k0_pay2 x g) (k0_pay3 x g) wh wl)
            ∗ owns (c : Thread nD τ) a7 fullShare (k0_pay2 x g)
            ∗ owns (c : Thread nD τ) a8 fullShare (k0_pay3 x g)) -∗ K ⟨⟩))
      ⊢ wp frame (wpE (defs₀ (F := F)) Variants.none c none) Set.univ
          (cc0_norm_mm3 i a2 h2 a3 h3 a4 h4 a5 h5 a6 h6 a7 h7 a8 h8) K := by
  simp only [cc0_norm_mm3_eq_skeleton]; unfold cc0_norm_mm3_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩,
    ⟨%d8, %f8, -, H8⟩, Hk⟩
  sl_exec (disch := first | sl_exact hc)
  sl_step
  have r2 := (View.readAt_full (Val := Elt F) a2.view f2 inb_S768x2048_S768x2048_0_0).trans e2
  have r3 := (View.readAt_full (Val := Elt F) a3.view f3 inb_S1x2048_S1x2048_0_0).trans e3
  have r4 := (View.readAt_full (Val := Elt F) a4.view f4 inb_S2048x512_S2048x512_0_0).trans e4
  have r5 := (View.readAt_full (Val := Elt F) a5.view f5 inb_S2048x512_S2048x512_0_0).trans e5
  iapply Hk
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr
    swap; · iexact H6
    ipureintro
    refine (View.read_writes_full _ _ _ _ _).trans ?_
    rw [r4, r5]
    exact congrArg₂ (k0_pay4 · · wh wl) ((View.readCov_full _ _ _ _ _).trans (congrArg₂ k0_pay2 r2 r3))
      ((View.readCov_full _ _ _ _ _).trans (congrArg₂ k0_pay3 r2 r3))
  isplitl [H7]
  · iexists _; isplitr
    swap; · iexact H7
    ipureintro
    exact (View.read_writes_full _ _ _ _ _).trans (congrArg₂ k0_pay2 r2 r3)
  iexists _; isplitr
  swap; · iexact H8
  ipureintro
  exact (View.read_writes_full _ _ _ _ _).trans (congrArg₂ k0_pay3 r2 r3)

/-- The body at the other points: the products are computed of the rows and the remainders that the buffers hold. -/
theorem body_rest (hc : ¬ first i) :
    iprop(owns (c : Thread nD τ) a4 fullShare wh ∗ owns (c : Thread nD τ) a5 fullShare wl
        ∗ (∃ d, owns (c : Thread nD τ) a6 fullShare d) ∗ owns (c : Thread nD τ) a7 fullShare xh
        ∗ owns (c : Thread nD τ) a8 fullShare xl
        ∗ (iprop(owns (c : Thread nD τ) a4 fullShare wh ∗ owns (c : Thread nD τ) a5 fullShare wl
            ∗ owns (c : Thread nD τ) a6 fullShare (k0_pay4 xh xl wh wl)
            ∗ owns (c : Thread nD τ) a7 fullShare xh ∗ owns (c : Thread nD τ) a8 fullShare xl) -∗ K ⟨⟩))
      ⊢ wp frame (wpE (defs₀ (F := F)) Variants.none c none) Set.univ
          (cc0_norm_mm3 i a2 h2 a3 h3 a4 h4 a5 h5 a6 h6 a7 h7 a8 h8) K := by
  simp only [cc0_norm_mm3_eq_skeleton]; unfold cc0_norm_mm3_skel
  unfold owns
  iintro ⟨⟨%f4, %e4, H4⟩, ⟨%f5, %e5, H5⟩, ⟨%d6, %f6, -, H6⟩, ⟨%f7, %e7, H7⟩, ⟨%f8, %e8, H8⟩, Hk⟩
  sl_exec (disch := first | sl_exact hc)
  sl_step
  have r4 := (View.readAt_full (Val := Elt F) a4.view f4 inb_S2048x512_S2048x512_0_0).trans e4
  have r5 := (View.readAt_full (Val := Elt F) a5.view f5 inb_S2048x512_S2048x512_0_0).trans e5
  have r7 := (View.readAt_full (Val := Elt F) a7.view f7 inb_S768x2048_S768x2048_0_0).trans e7
  have r8 := (View.readAt_full (Val := Elt F) a8.view f8 inb_S768x2048_S768x2048_0_0).trans e8
  iapply Hk
  isplitl [H4]
  · iexists _; isplitr; · ipureintro; exact e4
    iexact H4
  isplitl [H5]
  · iexists _; isplitr; · ipureintro; exact e5
    iexact H5
  isplitl [H6]
  · iexists _; isplitr
    swap; · iexact H6
    ipureintro
    refine (View.read_writes_full _ _ _ _ _).trans ?_
    rw [r4, r5]
    exact congrArg₂ (k0_pay4 · · wh wl) r7 r8
  isplitl [H7]
  · iexists _; isplitr; · ipureintro; exact e7
    iexact H7
  iexists _; isplitr; · ipureintro; exact e8
  iexact H8

end Body

section Run
variable (m : (ℓ : Loc nD τ sig) → Buf (Elt F) ℓ) (ρ : Dev nD → PrngReg) (c : Dev nD)

/-- The first point of the point's block of rows. -/
def lead (t : Fin cfg0.N) : Fin cfg0.N := ⟨t.val / 4 * 4, Nat.lt_of_le_of_lt (Nat.div_mul_le_self _ _) t.isLt⟩

theorem lead_self (t : Fin cfg0.N) (h : t.val % 4 = 0) : lead t = t :=
  Fin.ext (by show t.val / 4 * 4 = t.val; omega)

/-- The point before. -/
abbrev prev (t : Fin cfg0.N) : Fin cfg0.N := ⟨t.val - 1, Nat.lt_of_le_of_lt (Nat.sub_le _ _) t.isLt⟩

theorem lead_prev (t : Fin cfg0.N) (h : ¬ t.val % 4 = 0) : lead (prev t) = lead t :=
  Fin.ext (by show (t.val - 1) / 4 * 4 = t.val / 4 * 4; omega)

/-- The normalised rows of the point's block. -/
def rows (t : Fin cfg0.N) : Vec F S768x2048 .bf16 := k0_pay2 (iblk m c 0 (lead t)) (iblk m c 1 (lead t))

/-- What their rounding leaves over. -/
def rest (t : Fin cfg0.N) : Vec F S768x2048 .bf16 := k0_pay3 (iblk m c 0 (lead t)) (iblk m c 1 (lead t))

/-- The products of the point's rows with its columns. -/
def prod (t : Fin cfg0.N) : Vec F S768x512 .f32 := k0_pay4 (rows m c t) (rest m c t) (iblk m c 2 t) (iblk m c 3 t)

/-- The scratch as a memref. -/
abbrev scr : Memref sig .tc .vmem S768x2048 .bf16 := Memref.whole cc0_scratch0

/-- Before the first point the scratch holds anything, after a point the remainders of its rows. -/
def inv : (n : ℕ) → n ≤ cfg0.N → sProp (MT nD τ sig Unit (Elt F) ℕ (UR sig nD τ) ℕ)
  | 0, _ => Pipeline.ΦA spec0 c
  | n + 1, hn => iprop(owns (c : Thread nD τ) scr fullShare (rest m c ⟨n, hn⟩) ∗ (∃ r, prngReg c r))

theorem inv_zero (n : ℕ) (h : n ≤ cfg0.N) (hz : n = 0) : inv m c n h = Pipeline.ΦA spec0 c := by
  subst hz; rfl

theorem inv_pos (n : ℕ) (h : n ≤ cfg0.N) (hz : n ≠ 0) : inv m c n h
    = iprop(owns (c : Thread nD τ) scr fullShare (rest m c ⟨n - 1, by omega⟩) ∗ (∃ r, prngReg c r)) := by
  cases n with
  | zero => exact absurd rfl hz
  | succ n => rfl

theorem any_eq : (Pipeline.ΦA spec0 c : sProp (MT nD τ sig Unit (Elt F) ℕ (UR sig nD τ) ℕ))
    = iprop((∃ d, owns (c : Thread nD τ) scr fullShare d) ∗ (∃ r, prngReg c r)) := by
  unfold Pipeline.ΦA; rw [scopedRest0_eq]; simp only [scr, owns_whole]; try rfl

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prod m c t
    | ⟨5, _⟩ => rows m c t
  Φ t := inv m c t.val (Nat.le_of_lt_succ t.isLt)
  q _ := fullShare
  owed _ := 0

theorem A_eq (w : Fin cfg0.W) : (dats m 0 c).A w = V m c (Pipeline.arrRef spec0 w) := by
  dsimp only [dats]

theorem inv_castSucc (t : Fin cfg0.N) : (dats m 0 c).Φ t.castSucc = inv m c t.val (Nat.le_of_lt t.isLt) := by
  dsimp only [dats]; exact Pipeline.Dat.Φ_castSucc (inv m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = prod m c t := by dsimp only [dats]
theorem after_5 (t : Fin cfg0.N) : (dats m 0 c).after 5 t = rows m c t := by dsimp only [dats]

theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d
theorem before_2 (t : Fin cfg0.N) (d) : (dats m 0 c).before 2 t d = iblk m c 2 t :=
  before0_2_of m (dats m 0 c) (A_eq m c 2) (after_2 m c) t d
theorem before_3 (t : Fin cfg0.N) (d) : (dats m 0 c).before 3 t d = iblk m c 3 t :=
  before0_3_of m (dats m 0 c) (A_eq m c 3) (after_3 m c) t d

/-- The rows' buffer is stored into at the first points of the blocks only. -/
theorem idle_iff (t : Fin cfg0.N) : cfg0.idle 5 (cfg0.grid.coords t) = true ↔ ¬ t.val % 4 = 0 := by
  rw [← first_iff t]
  show (!(k0_cond1 (grid0.coords t) == 1#1)) = true ↔ ¬ k0_cond1 (grid0.coords t) = 1#1
  simp

/-- At the other points it holds the block's rows already. -/
theorem before_5 (t : Fin cfg0.N) (h : ¬ t.val % 4 = 0) (d) : (dats m 0 c).before 5 t d = rows m c t := by
  obtain ⟨n, hn⟩ := t
  induction n using Nat.strong_induction_on with
  | _ n ih =>
    have hp : n ≠ 0 := fun e => h (by show n % 4 = 0; omega)
    have hf : (cfg0.win 5).flush (prev ⟨n, hn⟩) = false := by
      rw [Bool.eq_false_iff]
      intro e
      have := (flush0_5 _).mp e
      have h' : ¬ n % 4 = 0 := h
      have : (n - 1) % 4 = 3 := this
      omega
    rw [(dats m 0 c).before_of_pos 5 ⟨n, hn⟩ hp ((cfg0.win 5).fetch_out rfl _), hf, if_neg Bool.false_ne_true]
    have hr : rows m c (prev ⟨n, hn⟩) = rows m c ⟨n, hn⟩ := by unfold rows; rw [lead_prev ⟨n, hn⟩ h]
    unfold Dat.left
    by_cases e : (n - 1) % 4 = 0
    · rw [Bool.eq_false_iff.mpr fun hi => (idle_iff _).mp hi e]
      refine Eq.trans ?_ ((after_5 m c _).trans hr)
      unfold Dat.kept
      rw [Pipeline.fill_of_clip_none 5 _ (fun _ => rfl) d ((dats m 0 c).after 5 _), Window.fill_cut]
    · rw [(idle_iff _).mpr e]
      exact (ih (n - 1) (by omega) (Nat.lt_of_le_of_lt (Nat.sub_le _ _) hn) e).trans hr

/-- The body at a point: the rows' buffer is left as it was found, or holds the rows. -/
theorem sound_body (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ (dats m 0 c).leavesExact 5 t)) := by
  unfold bodyAt0
  simp only [before_0, before_1, before_2, before_3]
  rw [show (dats m 0 c).owesAt () t.succ = (dats m 0 c).owesAt () t.castSucc from rfl,
    after_0, after_1, after_2, after_3, after_4, inv_castSucc m c t,
    show (dats m 0 c).Φ t.succ
      = iprop(owns (c : Thread nD τ) scr fullShare (rest m c t) ∗ (∃ r, prngReg c r)) from rfl]
  by_cases h0 : t.val % 4 = 0
  · have hL : (dats m 0 c).leavesExact 5 t = owns (c : Thread nD τ) (st0_5 t) fullShare (rows m c t) := by
      unfold Dat.leavesExact
      rw [Bool.eq_false_iff.mpr fun hi => (idle_iff t).mp hi h0, after_5]
    have hI : inv m c t.val (Nat.le_of_lt t.isLt)
        ⊢ iprop((∃ d, owns (c : Thread nD τ) scr fullShare d) ∗ (∃ r, prngReg c r)) := by
      by_cases hz : t.val = 0
      · rw [inv_zero m c _ _ hz, any_eq]
      · rw [inv_pos m c _ _ hz]
        iintro ⟨HS, Hg⟩
        isplitl [HS]
        · iexists _; iexact HS
        iexact Hg
    rw [hL]
    unfold prod rest rows
    rw [lead_self t h0]
    iintro ⟨HI, Ho, ⟨%d0, H0⟩, ⟨%d1, H1⟩, ⟨%d2, H2⟩, ⟨%d3, H3⟩, ⟨%d4, H4⟩, ⟨%d5, H5⟩⟩
    ihave HI := hI $$ HI
    icases HI with ⟨HS, Hg⟩
    iapply (body_first c (grid0.coords t) _ _ _ _ _ _ _ _ _ _ _ _ _ _ (iblk m c 0 t) (iblk m c 1 t) (iblk m c 2 t) (iblk m c 3 t) _
      ((first_iff t).mpr h0))
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    have hL : owns (c : Thread nD τ) (st0_5 t) fullShare (rows m c t) ⊢ (dats m 0 c).leavesExact 5 t := by
      unfold Dat.leavesExact
      rw [(idle_iff t).mpr h0]
      dsimp only
      split
      · iintro H
        iexists (rows m c t)
        rw [before_5 m c t h0]
        iexact H
      · rw [after_5]
    simp only [before_5 m c t h0]
    have hr : rest m c ⟨t.val - 1, by have := t.isLt; omega⟩ = rest m c t := by
      unfold rest; rw [← lead_prev t h0]
    rw [inv_pos m c _ _ hz, hr]
    iintro ⟨⟨HS, Hg⟩, Ho, ⟨%d0, H0⟩, ⟨%d1, H1⟩, ⟨%d2, H2⟩, ⟨%d3, H3⟩, ⟨%d4, H4⟩, ⟨%d5, H5⟩⟩
    iapply (body_rest c (grid0.coords t) _ _ _ _ _ _ _ _ _ _ _ _ _ _ (iblk m c 2 t) (iblk m c 3 t) (rows m c t) (rest m c t) _
      (fun h => h0 ((first_iff t).mp h)))
    isplitl [H2]; · iexact H2
    isplitl [H3]; · iexact H3
    isplitl [H4]; · iexists _; iexact H4
    isplitl [H5]; · iexact H5
    isplitl [HS]; · iexact HS
    iintro ⟨H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply hL
    iexact H5

theorem body_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, body_row]
  exact triple_restated (sound_body m c t) rfl .rfl fun _ => .rfl

theorem inv_in : Pipeline.ΦA spec0 c ⊢ (dats m 0 c).Φ 0 := by
  rw [show (dats m 0 c).Φ 0 = inv m c 0 (Nat.zero_le _) from rfl, inv_zero m c 0 _ rfl]

theorem inv_out : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 44 := N_0; omega), any_eq]
  iintro ⟨HS, Hg⟩
  isplitl [HS]
  · iexists _; iexact HS
  iexact Hg

set_option backward.isDefEq.respectTransparency.types false in
/-- Every execution ends, with each array of the pipeline at what its write-backs put there and no semaphore raised. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were, and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Run

end Cert.PeerQueryIdeal.Hand

end
-- ==== Proof.Query.Bits.lean ====
/- The run of the query projection at the machine's numbers: the two printed programs are one text. -/
module

public import proofs.«01_k».proof.Proof.Query.Ideal
public import proofs.«01_k».proof.Proof.Gen.PeerQuery.Frame
public import Idealize.ShloMosaic.PureOps.BitExact

@[expose] public section

noncomputable section

namespace Cert.PeerQuery.Hand

open Cert.PeerQuery Idealize.ShloMosaic Idealize.ShloMosaic.TcCoe Idealize.SL.Sem

/-- Both programs call one body. -/
theorem body_eq : Cert.PeerQuery.defs₀ (F := Bits) = Cert.PeerQueryIdeal.defs₀ (F := Bits) := by
  unfold Cert.PeerQuery.defs₀ Cert.PeerQueryIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem table_eq : Cert.PeerQuery.defs (F := Bits) = Cert.PeerQueryIdeal.defs (F := Bits) :=
  congrArg (Pipeline.defs pcfgs) body_eq

theorem main_eq : Cert.PeerQuery.main (F := Bits) = Cert.PeerQueryIdeal.main (F := Bits) := rfl

/-- The arguments end as they were, and no semaphore is raised. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [table_eq, main_eq]
  exact Cert.PeerQueryIdeal.Hand.frame (F := Bits) m ρ

end Cert.PeerQuery.Hand

end
-- ==== Proof.Band.Softmax.lean ====
/- A softmax over a masked row depends only on the positions the mask keeps: a row of `N` masked scores and
   a cut of its kept positions into shorter masked rows have the same maximum and the same weighted sums. -/
module

public import Idealize.ShloMosaic.PureOps.Ideal.Laws

@[expose] public section

noncomputable section

namespace Cert.Band

open Idealize.ShloMosaic

/-- The greatest score of a row, `⊥` for an empty one. -/
def top {n : Nat} (s : Fin n → EReal) : EReal := Finset.univ.fold max ⊥ s

theorem top_eq_sup {n : Nat} (s : Fin n → EReal) : top s = Finset.univ.sup s := rfl

/-- The weight of a score `s` against the row's maximum `m`. -/
def wgt (m s : EReal) : EReal := Ideal.exp (s - m)

theorem wgt_bot (m : EReal) : wgt m ⊥ = 0 := by
  unfold wgt; rw [EReal.bot_sub]; rfl

/-- The rows `s1`, `s2` of `M` masked scores hold the kept scores of the row `s`, each once: `p1`, `p2` say which
    entries they keep and `g1`, `g2` where these lie in `s`. -/
structure Cut {N M : Nat} (s : Fin N → EReal) (s1 s2 : Fin M → EReal) (g1 g2 : Fin M → Fin N) : Prop where
  cut : ∃ (p : Fin N → Prop) (p1 p2 : Fin M → Prop),
    (∀ u, ¬ p u → s u = ⊥) ∧ (∀ k, ¬ p1 k → s1 k = ⊥) ∧ (∀ k, ¬ p2 k → s2 k = ⊥)
    ∧ (∀ k, p1 k → p (g1 k) ∧ s1 k = s (g1 k)) ∧ (∀ k, p2 k → p (g2 k) ∧ s2 k = s (g2 k))
    ∧ (∀ u, p u → (∃ k, p1 k ∧ g1 k = u) ∨ (∃ k, p2 k ∧ g2 k = u))
    ∧ (∀ k l, p1 k → p1 l → g1 k = g1 l → k = l) ∧ (∀ k l, p2 k → p2 l → g2 k = g2 l → k = l)
    ∧ (∀ k l, p1 k → p2 l → g1 k ≠ g2 l)

variable {N M : Nat} {s : Fin N → EReal} {s1 s2 : Fin M → EReal} {g1 g2 : Fin M → Fin N}

/-- The row's maximum is the greater of the two cut rows' maxima. -/
theorem Cut.top_eq (h : Cut s s1 s2 g1 g2) : top s = max (top s1) (top s2) := by
  obtain ⟨p, p1, p2, hs, h1, h2, e1, e2, cov, -, -, -⟩ := h.cut
  simp only [top_eq_sup]
  apply le_antisymm
  · refine Finset.sup_le fun u _ => ?_
    by_cases hu : p u
    · rcases cov u hu with ⟨k, hk, rfl⟩ | ⟨k, hk, rfl⟩
      · rw [← (e1 k hk).2]; exact le_max_of_le_left (Finset.le_sup (f := s1) (Finset.mem_univ k))
      · rw [← (e2 k hk).2]; exact le_max_of_le_right (Finset.le_sup (f := s2) (Finset.mem_univ k))
    · rw [hs u hu]; exact bot_le
  · refine max_le (Finset.sup_le fun k _ => ?_) (Finset.sup_le fun k _ => ?_)
    · by_cases hk : p1 k
      · rw [(e1 k hk).2]; exact Finset.le_sup (f := s) (Finset.mem_univ _)
      · rw [h1 k hk]; exact bot_le
    · by_cases hk : p2 k
      · rw [(e2 k hk).2]; exact Finset.le_sup (f := s) (Finset.mem_univ _)
      · rw [h2 k hk]; exact bot_le

/-- A weighted sum over the row is the sum of the two cut rows' weighted sums. -/
theorem Cut.sum_eq (h : Cut s s1 s2 g1 g2) (m : EReal) (f : Fin N → EReal) :
    ∑ u, f u * wgt m (s u) = (∑ k, f (g1 k) * wgt m (s1 k)) + ∑ k, f (g2 k) * wgt m (s2 k) := by
  classical
  obtain ⟨p, p1, p2, hs, h1, h2, e1, e2, cov, i1, i2, dj⟩ := h.cut
  have part : ∀ (t : Fin M → EReal) (g : Fin M → Fin N) (q : Fin M → Prop), (∀ k, ¬ q k → t k = ⊥) →
      (∀ k, q k → t k = s (g k)) → (∀ k l, q k → q l → g k = g l → k = l) →
      ∑ k, f (g k) * wgt m (t k) = ∑ u ∈ (Finset.univ.filter q).image g, f u * wgt m (s u) := by
    intro t g q hb he hi
    rw [Finset.sum_image fun a ha b hb' => hi a b (Finset.mem_filter.1 ha).2 (Finset.mem_filter.1 hb').2,
      Finset.sum_filter]
    refine Finset.sum_congr rfl fun k _ => ?_
    split
    · next hk => rw [he k hk]
    · next hk => rw [hb k hk, wgt_bot, mul_zero]
  rw [part s1 g1 p1 h1 (fun k hk => (e1 k hk).2) i1, part s2 g2 p2 h2 (fun k hk => (e2 k hk).2) i2,
    ← Finset.sum_union]
  · symm
    refine Finset.sum_subset (Finset.subset_univ _) fun u _ hu => ?_
    by_cases hp : p u
    · exfalso; apply hu; rw [Finset.mem_union, Finset.mem_image, Finset.mem_image]
      rcases cov u hp with ⟨k, hk, e⟩ | ⟨k, hk, e⟩
      · exact .inl ⟨k, Finset.mem_filter.2 ⟨Finset.mem_univ _, hk⟩, e⟩
      · exact .inr ⟨k, Finset.mem_filter.2 ⟨Finset.mem_univ _, hk⟩, e⟩
    · rw [hs u hp, wgt_bot, mul_zero]
  · rw [Finset.disjoint_left]
    intro u hu hv
    obtain ⟨k, hk, rfl⟩ := Finset.mem_image.1 hu
    obtain ⟨l, hl, e⟩ := Finset.mem_image.1 hv
    exact dj k l (Finset.mem_filter.1 hk).2 (Finset.mem_filter.1 hl).2 e.symm

/-- A row's denominator: the sum of its weights. -/
theorem Cut.den_eq (h : Cut s s1 s2 g1 g2) (m : EReal) :
    ∑ u, wgt m (s u) = (∑ k, wgt m (s1 k)) + ∑ k, wgt m (s2 k) := by
  simpa only [one_mul] using h.sum_eq m fun _ => 1

end Cert.Band

end
-- ==== Proof.Band.Head.lean ====
/- One attention head of one block of 128 queries, over the block's own 128 keys and the 128 before it, in the
   vector operations the kernel applies; and its elements. -/
module

public import proofs.«01_k».proof.Proof.Band.Softmax
public import Idealize.ShloMosaic.Lib.Pointwise

@[expose] public section

noncomputable section

namespace Cert.Band

open Idealize.ShloMosaic

abbrev Q64 : Shape := ⟨2, ![128, 64]⟩
abbrev Q128 : Shape := ⟨2, ![128, 128]⟩
abbrev Q256 : Shape := ⟨2, ![128, 256]⟩
abbrev Q1 : Shape := ⟨2, ![128, 1]⟩
abbrev Q : Shape := ⟨1, ![128]⟩

/-- Queries times keys, both by rows. -/
def dotQK : DotDims Q64 Q64 Q128 where
  lhsContracting := [1]
  rhsContracting := [1]
  lhsNonContracting := [0]
  rhsNonContracting := [0]
  lhsBatch := []
  rhsBatch := []
  wf := by decide

/-- Weights times values. -/
def dotWV : DotDims Q128 Q64 Q64 where
  lhsContracting := [1]
  rhsContracting := [0]
  lhsNonContracting := [0]
  rhsNonContracting := [1]
  lhsBatch := []
  rhsBatch := []
  wf := by decide

/-- The scaled products of queries and keys. -/
def rawV (q k : FVec Ideal Q64 .f32) : FVec Ideal Q128 .f32 :=
  mulf (matmul dotQK none (truncf .bf16 (shapeCast Q64 q (by decide)) (by decide))
    (truncf .bf16 (shapeCast Q64 k (by decide)) (by decide)) (constant Q128 .f32 0x00000000#32))
    (broadcast Q128 (Scalar.ofBits .f32 0x3E000000#32))

/-- The scores: the scaled products where the mask allows, `-∞` elsewhere. -/
def scoreV (ok : IVec Q128 1) (q k : FVec Ideal Q64 .f32) : FVec Ideal Q128 .f32 :=
  select ok (rawV q k) (broadcast Q128 (Scalar.ofBits .f32 0xFF800000#32))

/-- Each row's maximum, as a column. -/
def topV (s : FVec Ideal Q128 .f32) : FVec Ideal Q1 .f32 :=
  shapeCast Q1 (multiReduction .maximumf [1] Q s 0xFF800000#32 (by decide) (.inl rfl) rfl) (by decide)

/-- The weights against a column of maxima. -/
def wgtV (m : FVec Ideal Q1 .f32) (s : FVec Ideal Q128 .f32) : FVec Ideal Q128 .f32 :=
  exp (subf s (broadcastTo Q128 m (by decide)))

/-- Each row's sum, as a column. -/
def sumV (w : FVec Ideal Q128 .f32) : FVec Ideal Q1 .f32 :=
  shapeCast Q1 (multiReduction .add [1] Q w 0x00000000#32 (by decide) (.inl rfl) rfl) (by decide)

/-- Weights times values. -/
def accV (w : FVec Ideal Q128 .f32) (v : FVec Ideal Q64 .f32) : FVec Ideal Q64 .f32 :=
  matmul dotWV none (truncf .bf16 w (by decide)) (truncf .bf16 (shapeCast Q64 v (by decide)) (by decide))
    (constant Q64 .f32 0x00000000#32)

/-- The head's output from a column of maxima, the weights' sums and the weighted values. -/
def outV (den : FVec Ideal Q1 .f32) (acc : FVec Ideal Q64 .f32) : FVec Ideal Q64 .f32 :=
  divf acc (broadcastTo Q64 den (by decide))

/-- The head's log-denominator, one value for all columns. -/
def lseV (m den : FVec Ideal Q1 .f32) : FVec Ideal Q64 .f32 :=
  broadcastTo Q64 (shapeCast Q1 (addf m (log den)) (by decide)) (by decide)

/-- The maxima over both key blocks. -/
def top2V (s1 s2 : FVec Ideal Q128 .f32) : FVec Ideal Q1 .f32 := maximumf (topV s1) (topV s2)

/-- The head's output over both key blocks. -/
def out2V (s1 s2 : FVec Ideal Q128 .f32) (v1 v2 : FVec Ideal Q64 .f32) : FVec Ideal Q64 .f32 :=
  outV (addf (sumV (wgtV (top2V s1 s2) s1)) (sumV (wgtV (top2V s1 s2) s2)))
    (addf (accV (wgtV (top2V s1 s2) s1) v1) (accV (wgtV (top2V s1 s2) s2) v2))

/-- The head's log-denominator over both key blocks. -/
def lse2V (s1 s2 : FVec Ideal Q128 .f32) : FVec Ideal Q64 .f32 :=
  lseV (top2V s1 s2) (addf (sumV (wgtV (top2V s1 s2) s1)) (sumV (wgtV (top2V s1 s2) s2)))

theorem ofBits_bot : Ideal.ofBits .f32 0xFF800000#32 = ⊥ := by simp [Ideal.ofBits, Ideal.ieee]

/-- One eighth, the scores' scale. -/
def eighth : EReal := Ideal.ofBits .f32 0x3E000000#32

theorem scoreV_apply (ok : IVec Q128 1) (q k : FVec Ideal Q64 .f32) (i j : Fin 128) :
    scoreV ok q k (ix2 i j)
      = Scalar.select (ok (ix2 i j)) ((∑ d : Fin 64, q (ix2 i d) * k (ix2 j d)) * eighth) ⊥ := by
  rw [← ofBits_bot]
  pointwise [scoreV, rawV, dotQK, eighth]

theorem topV_apply (s : FVec Ideal Q128 .f32) (i : Fin 128) (z : Fin 1) :
    topV s (ix2 i z) = top fun j => s (ix2 i j) := by
  pointwise [topV, top]
  rw [ofBits_bot]

theorem wgtV_apply (m : FVec Ideal Q1 .f32) (s : FVec Ideal Q128 .f32) (i j : Fin 128) :
    wgtV m s (ix2 i j) = wgt (m (ix2 i 0)) (s (ix2 i j)) := by
  pointwise [wgtV, wgt]

theorem sumV_apply (w : FVec Ideal Q128 .f32) (i : Fin 128) (z : Fin 1) :
    sumV w (ix2 i z) = ∑ j : Fin 128, w (ix2 i j) := by
  pointwise [sumV]

theorem accV_apply (w : FVec Ideal Q128 .f32) (v : FVec Ideal Q64 .f32) (i : Fin 128) (d : Fin 64) :
    accV w v (ix2 i d) = ∑ j : Fin 128, v (ix2 j d) * w (ix2 i j) := by
  pointwise [accV, dotWV]
  exact Finset.sum_congr rfl fun j _ => mul_comm _ _

theorem outV_apply (den : FVec Ideal Q1 .f32) (acc : FVec Ideal Q64 .f32) (i : Fin 128) (d : Fin 64) :
    outV den acc (ix2 i d) = Ideal.div (acc (ix2 i d)) (den (ix2 i 0)) := by
  pointwise [outV]

theorem lseV_apply (m den : FVec Ideal Q1 .f32) (i : Fin 128) (d : Fin 64) :
    lseV m den (ix2 i d) = m (ix2 i 0) + Ideal.log (den (ix2 i 0)) := by
  pointwise [lseV]

theorem top2V_apply (s1 s2 : FVec Ideal Q128 .f32) (i : Fin 128) (z : Fin 1) :
    top2V s1 s2 (ix2 i z) = max (top fun j => s1 (ix2 i j)) (top fun j => s2 (ix2 i j)) := by
  show max (topV s1 (ix2 i z)) (topV s2 (ix2 i z)) = _
  rw [topV_apply, topV_apply]

variable {N : Nat} {s : Fin N → EReal} {v : Fin N → EReal}
  {s1 s2 : FVec Ideal Q128 .f32} {v1 v2 : FVec Ideal Q64 .f32} {g1 g2 : Fin 128 → Fin N}

/-- A head's output at a query is the softmax average of the values over the query's whole masked row, of which the
    two blocks hold the kept part. -/
theorem out2V_eq (i : Fin 128) (d : Fin 64) (h : Cut s (fun j => s1 (ix2 i j)) (fun j => s2 (ix2 i j)) g1 g2)
    (h1 : ∀ j, v1 (ix2 j d) = v (g1 j)) (h2 : ∀ j, v2 (ix2 j d) = v (g2 j)) :
    out2V s1 s2 v1 v2 (ix2 i d)
      = Ideal.div (∑ u, v u * wgt (top s) (s u)) (∑ u, wgt (top s) (s u)) := by
  rw [out2V, outV_apply, h.sum_eq, h.den_eq, h.top_eq]
  show Ideal.div (accV _ _ _ + accV _ _ _) (sumV _ _ + sumV _ _) = _
  simp only [accV_apply, sumV_apply, wgtV_apply, top2V_apply, h1, h2]

/-- A head's log-denominator at a query is that of the query's whole masked row. -/
theorem lse2V_eq (i : Fin 128) (d : Fin 64) (h : Cut s (fun j => s1 (ix2 i j)) (fun j => s2 (ix2 i j)) g1 g2) :
    lse2V s1 s2 (ix2 i d) = top s + Ideal.log (∑ u, wgt (top s) (s u)) := by
  rw [lse2V, lseV_apply, h.den_eq, h.top_eq]
  show top2V _ _ _ + Ideal.log (sumV _ _ + sumV _ _) = _
  simp only [sumV_apply, wgtV_apply, top2V_apply]

end Cert.Band

end
-- ==== Proof.Band.Block.lean ====
/- One block of the attention's outputs, four heads side by side, against the whole masked rows: the block of
   128 queries `r + dil·(128·b + i)` over the keys of its own block and of the block before. -/
module

public import proofs.«01_k».proof.Proof.Band.Head
public import Idealize.ShloMosaic.Lib.Affine
public import Idealize.ShloMosaic.Lib.Pipeline.Value

@[expose] public section

noncomputable section

namespace Cert.Band

open Idealize.ShloMosaic

/-- Keys at or before the query, inside one block. -/
def curOk : IVec Q128 1 := cmpi .sle (iota .tc Q128 32 [1] (by decide)) (iota .tc Q128 32 [0] (by decide))

/-- Keys of the block before, at most 128 steps back; none when there is no block before. -/
def prevOk (b : BitVec 32) : IVec Q128 1 :=
  andi (cmpi .sge (iota .tc Q128 32 [1] (by decide)) (iota .tc Q128 32 [0] (by decide)))
    (broadcast Q128 (Scalar.cmpi .sgt b 0#32))

theorem ofBool_eq_one_iff (b : Bool) : BitVec.ofBool b = 1#1 ↔ b = true := by cases b <;> decide

theorem toInt_small (n : Nat) (h : n < 2147483648) : (BitVec.ofNat 32 n).toInt = n := by
  rw [BitVec.toInt_eq_toNat_of_lt (by rw [BitVec.toNat_ofNat]; omega), BitVec.toNat_ofNat]; omega

theorem curOk_apply (i j : Fin 128) : curOk (ix2 i j) = 1#1 ↔ j.val ≤ i.val := by
  have e : curOk (ix2 i j) = IntOp.cmpi .sle (BitVec.ofNat 32 j.val) (BitVec.ofNat 32 i.val) := by pointwise [curOk]
  rw [e]
  rw [IntOp.cmpi_sle, toInt_small _ (by omega), toInt_small _ (by omega)]; omega

theorem prevOk_apply (b : Nat) (hb : b < 128) (i j : Fin 128) :
    prevOk (BitVec.ofNat 32 b) (ix2 i j) = 1#1 ↔ i.val ≤ j.val ∧ 0 < b := by
  have h1 : IntOp.cmpi .sge (BitVec.ofNat 32 j.val) (BitVec.ofNat 32 i.val) = 1#1 ↔ i.val ≤ j.val := by
    rw [IntOp.cmpi_sge, toInt_small _ (by omega), toInt_small _ (by omega)]; omega
  have h2 : IntOp.cmpi .sgt (BitVec.ofNat 32 b) 0#32 = 1#1 ↔ 0 < b := by
    rw [IntOp.cmpi_sgt, toInt_small b (by omega), show (0#32 : BitVec 32).toInt = 0 from rfl]; omega
  rw [← h1, ← h2]
  have e : prevOk (BitVec.ofNat 32 b) (ix2 i j) = IntOp.andi (IntOp.cmpi .sge (BitVec.ofNat 32 j.val) (BitVec.ofNat 32 i.val))
      (IntOp.cmpi .sgt (BitVec.ofNat 32 b) 0#32) := by pointwise [prevOk]; rfl
  rw [e]
  generalize IntOp.cmpi .sge (BitVec.ofNat 32 j.val) (BitVec.ofNat 32 i.val) = x
  generalize IntOp.cmpi .sgt (BitVec.ofNat 32 b) 0#32 = y
  revert x y; decide

/-- The 64 columns of head `h`. -/
def cols (x : FVec Ideal Q256 .f32) (o : Nat) (ho : ∀ a, (![0, o] : Fin 2 → Nat) a + Q64.size a ≤ Q256.size a) :
    FVec Ideal Q64 .f32 :=
  View.ld (Val := Elt Ideal) (e' := .f32) x (Rect.unit (s := Q256) ![0, o] Q64.size ho)

theorem cols_apply (x : FVec Ideal Q256 .f32) (o : Nat) (ho) (i : Fin 128) (d : Fin 64) (hd : o + d.val < 256) :
    cols x o ho (ix2 i d) = x (ix2 i ⟨o + d.val, hd⟩) := by
  refine congrArg x (funext fun a => Fin.ext ?_)
  match a with
  | ⟨0, _⟩ => show 0 + 1 * i.val = i.val; omega
  | ⟨1, _⟩ => show o + 1 * d.val = o + d.val; omega

theorem cols_in (h : Fin 4) : ∀ a, (![0, 64 * h.val] : Fin 2 → Nat) a + Q64.size a ≤ Q256.size a := by
  intro a
  match a with
  | ⟨0, _⟩ => show 0 + 128 ≤ 128; omega
  | ⟨1, _⟩ => show 64 * h.val + 64 ≤ 256; omega

/-- Head `h`'s scores in a block. -/
def scoreB (ok : IVec Q128 1) (q k : FVec Ideal Q256 .f32) (h : Fin 4) : FVec Ideal Q128 .f32 :=
  scoreV ok (cols q (64 * h.val) (cols_in h)) (cols k (64 * h.val) (cols_in h))

theorem four_Q64 : Shape.Concatenates [Q64, Q64, Q64, Q64] Q256 1 := by decide

/-- Four heads' values side by side. -/
def sideBySide (f : Fin 4 → FVec Ideal Q64 .f32) : FVec Ideal Q256 .f32 :=
  concatenate Q256 1 [⟨Q64, f 0⟩, ⟨Q64, f 1⟩, ⟨Q64, f 2⟩, ⟨Q64, f 3⟩] four_Q64

theorem sideBySide_apply (f : Fin 4 → FVec Ideal Q64 .f32) (i : Fin 128) (h : Fin 4) (d : Fin 64) (j : Fin 256)
    (hj : j.val = 64 * h.val + d.val) : sideBySide f (ix2 i j) = f h (ix2 i d) := by
  refine concatenate_ofFn_apply (t := Q256) (s₁ := Q64) 1 f four_Q64 rfl 64 rfl (ix2 i j) h ?_ (ix2 i d) ?_ ?_
  · show j.val / 64 = h.val; omega
  · show d.val = j.val % 64; omega
  · intro b hb
    match b with
    | ⟨0, _⟩ => rfl
    | ⟨1, _⟩ => exact absurd rfl hb

/-- A block of the attention's output from the query block, the two key blocks and the two value blocks. -/
def out2B (ok1 ok2 : IVec Q128 1) (q k1 k2 v1 v2 : FVec Ideal Q256 .f32) : FVec Ideal Q256 .f32 :=
  sideBySide fun h => out2V (scoreB ok1 q k1 h) (scoreB ok2 q k2 h)
    (cols v1 (64 * h.val) (cols_in h)) (cols v2 (64 * h.val) (cols_in h))

/-- A block of the log-denominators. -/
def lse2B (ok1 ok2 : IVec Q128 1) (q k1 k2 : FVec Ideal Q256 .f32) : FVec Ideal Q256 .f32 :=
  sideBySide fun h => lse2V (scoreB ok1 q k1 h) (scoreB ok2 q k2 h)

/-! ## The whole masked rows -/

/-- Position `t` attends position `u` of its sequence: at most 128 steps of `dil` back. -/
def Attends (dil t u : Nat) : Prop := u ≤ t ∧ t - u ≤ 128 * dil ∧ (t - u) % dil = 0

instance (dil t u : Nat) : Decidable (Attends dil t u) := by unfold Attends; infer_instance

/-- Column `d` of head `h`. -/
def col (h : Fin 4) (d : Fin 64) : Fin 256 := ⟨64 * h.val + d.val, by omega⟩

/-- The masked score of query position `t` and key position `u` in head `h`. -/
def score (dil : Nat) (qf kf : Fin 2048 → Fin 256 → EReal) (h : Fin 4) (t u : Fin 2048) : EReal :=
  if Attends dil t.val u.val then (∑ d : Fin 64, qf t (col h d) * kf u (col h d)) * eighth else ⊥

/-- The softmax average of the values. -/
def attOut (dil : Nat) (qf kf vf : Fin 2048 → Fin 256 → EReal) (t : Fin 2048) (h : Fin 4) (d : Fin 64) : EReal :=
  Ideal.div (∑ u, vf u (col h d) * wgt (top (score dil qf kf h t)) (score dil qf kf h t u))
    (∑ u, wgt (top (score dil qf kf h t)) (score dil qf kf h t u))

/-- The log of the softmax denominator. -/
def attLse (dil : Nat) (qf kf : Fin 2048 → Fin 256 → EReal) (t : Fin 2048) (h : Fin 4) : EReal :=
  top (score dil qf kf h t) + Ideal.log (∑ u, wgt (top (score dil qf kf h t)) (score dil qf kf h t u))

/-! ## The block's rows are the whole rows cut -/

/-- The position of entry `i` of block `b` in residue class `r`. -/
def pos (dil r b : Nat) (hb : r < dil) (hd : dil * (128 * b + 128) ≤ 2048) (i : Fin 128) : Fin 2048 :=
  ⟨r + dil * (128 * b + i.val), by
    have : dil * (128 * b + i.val) + dil ≤ dil * (128 * b + 128) := by
      rw [← Nat.mul_succ]; exact Nat.mul_le_mul_left _ (by omega)
    omega⟩

theorem select_of {α : Type} {c : BitVec 1} (h : c = 1#1) (x y : α) : Scalar.select c x y = x := if_pos h
theorem select_of_not {α : Type} {c : BitVec 1} (h : ¬ c = 1#1) (x y : α) : Scalar.select c x y = y := if_neg h

theorem score_block (ok : IVec Q128 1) (q k : FVec Ideal Q256 .f32) (h : Fin 4) (i j : Fin 128)
    (qf kf : Fin 2048 → Fin 256 → EReal) (t u : Fin 2048)
    (hq : ∀ c, q (ix2 i c) = qf t c) (hk : ∀ c, k (ix2 j c) = kf u c) :
    scoreB ok q k h (ix2 i j)
      = Scalar.select (ok (ix2 i j)) ((∑ d : Fin 64, qf t (col h d) * kf u (col h d)) * eighth) ⊥ := by
  rw [scoreB, scoreV_apply]
  congr 2
  refine Finset.sum_congr rfl fun d _ => ?_
  rw [cols_apply q _ _ i d (by omega), cols_apply k _ _ j d (by omega), hq, hk]
  rfl

section Cuts
variable (dil r b : Nat) (hdil : dil = 1 ∨ dil = 4 ∨ dil = 16) (hr : r < dil) (hb : dil * (128 * b + 128) ≤ 2048)
  (hb' : dil * (128 * (b - 1) + 128) ≤ 2048)
  (q k1 k2 v1 v2 : FVec Ideal Q256 .f32) (qf kf vf : Fin 2048 → Fin 256 → EReal)
  (hq : ∀ i c, q (ix2 i c) = qf (pos dil r b hr hb i) c)
  (hk1 : ∀ i c, k1 (ix2 i c) = kf (pos dil r b hr hb i) c)
  (hk2 : ∀ i c, k2 (ix2 i c) = kf (pos dil r (b - 1) hr hb' i) c)
include hdil hq hk1 hk2

theorem cut2 (h : Fin 4) (i : Fin 128) :
    Cut (score dil qf kf h (pos dil r b hr hb i)) (fun j => scoreB curOk q k1 h (ix2 i j))
      (fun j => scoreB (prevOk (BitVec.ofNat 32 b)) q k2 h (ix2 i j)) (pos dil r b hr hb) (pos dil r (b - 1) hr hb') := by
  have hb1 : b < 128 := by rcases hdil with rfl | rfl | rfl <;> omega
  refine ⟨fun u => Attends dil (pos dil r b hr hb i).val u.val, fun j => j.val ≤ i.val, fun j => i.val ≤ j.val ∧ 0 < b,
    fun u hu => if_neg hu, fun j hj => ?_, fun j hj => ?_, fun j hj => ?_, fun j hj => ?_, fun u hu => ?_,
    fun j l _ _ e => ?_, fun j l _ _ e => ?_, fun j l _ hl e => ?_⟩
  · show scoreB _ _ _ _ _ = _
    rw [score_block _ _ _ h i j qf kf _ _ (hq i) (hk1 j), select_of_not fun e => hj ((curOk_apply i j).1 e)]
  · show scoreB _ _ _ _ _ = _
    rw [score_block _ _ _ h i j qf kf _ _ (hq i) (hk2 j), select_of_not fun e => hj ((prevOk_apply b hb1 i j).1 e)]
  · have ha : Attends dil (pos dil r b hr hb i).val (pos dil r b hr hb j).val := by
      show Attends dil (r + dil * (128 * b + i.val)) (r + dil * (128 * b + j.val))
      unfold Attends
      rcases hdil with rfl | rfl | rfl <;> omega
    refine ⟨ha, ?_⟩
    show scoreB _ _ _ _ _ = _
    rw [score_block _ _ _ h i j qf kf _ _ (hq i) (hk1 j), select_of ((curOk_apply i j).2 hj), score, if_pos ha]
  · have ha : Attends dil (pos dil r b hr hb i).val (pos dil r (b - 1) hr hb' j).val := by
      show Attends dil (r + dil * (128 * b + i.val)) (r + dil * (128 * (b - 1) + j.val))
      unfold Attends
      rcases hdil with rfl | rfl | rfl <;> omega
    refine ⟨ha, ?_⟩
    show scoreB _ _ _ _ _ = _
    rw [score_block _ _ _ h i j qf kf _ _ (hq i) (hk2 j), select_of ((prevOk_apply b hb1 i j).2 hj), score, if_pos ha]
  · have hu' : Attends dil (r + dil * (128 * b + i.val)) u.val := hu
    unfold Attends at hu'
    by_cases hc : r + dil * (128 * b) ≤ u.val
    · left
      refine ⟨⟨(u.val - r - dil * (128 * b)) / dil, ?_⟩, ?_, Fin.ext ?_⟩
      · rcases hdil with rfl | rfl | rfl <;> omega
      · show (u.val - r - dil * (128 * b)) / dil ≤ i.val
        rcases hdil with rfl | rfl | rfl <;> omega
      · show r + dil * (128 * b + (u.val - r - dil * (128 * b)) / dil) = u.val
        rcases hdil with rfl | rfl | rfl <;> omega
    · right
      refine ⟨⟨(u.val - r - dil * (128 * (b - 1))) / dil, ?_⟩, ?_, Fin.ext ?_⟩
      · rcases hdil with rfl | rfl | rfl <;> omega
      · show i.val ≤ (u.val - r - dil * (128 * (b - 1))) / dil ∧ 0 < b
        rcases hdil with rfl | rfl | rfl <;> omega
      · show r + dil * (128 * (b - 1) + (u.val - r - dil * (128 * (b - 1))) / dil) = u.val
        rcases hdil with rfl | rfl | rfl <;> omega
  · have e' : r + dil * (128 * b + j.val) = r + dil * (128 * b + l.val) := congrArg Fin.val e
    refine Fin.ext ?_
    rcases hdil with rfl | rfl | rfl <;> omega
  · have e' : r + dil * (128 * (b - 1) + j.val) = r + dil * (128 * (b - 1) + l.val) := congrArg Fin.val e
    refine Fin.ext ?_
    rcases hdil with rfl | rfl | rfl <;> omega
  · have e' : r + dil * (128 * b + j.val) = r + dil * (128 * (b - 1) + l.val) := congrArg Fin.val e
    rcases hdil with rfl | rfl | rfl <;> omega

/-- A block's log-denominators are the whole rows'. -/
theorem lse2B_eq (i : Fin 128) (h : Fin 4) (d : Fin 64) (j : Fin 256) (hj : j.val = 64 * h.val + d.val) :
    lse2B curOk (prevOk (BitVec.ofNat 32 b)) q k1 k2 (ix2 i j) = attLse dil qf kf (pos dil r b hr hb i) h := by
  rw [lse2B, sideBySide_apply _ i h d j hj]
  exact lse2V_eq i d (cut2 dil r b hdil hr hb hb' q k1 k2 qf kf hq hk1 hk2 h i)

/-- A block's outputs are the whole rows' softmax averages. -/
theorem out2B_eq (hv1 : ∀ i c, v1 (ix2 i c) = vf (pos dil r b hr hb i) c)
    (hv2 : ∀ i c, v2 (ix2 i c) = vf (pos dil r (b - 1) hr hb' i) c)
    (i : Fin 128) (h : Fin 4) (d : Fin 64) (j : Fin 256) (hj : j.val = 64 * h.val + d.val) :
    out2B curOk (prevOk (BitVec.ofNat 32 b)) q k1 k2 v1 v2 (ix2 i j) = attOut dil qf kf vf (pos dil r b hr hb i) h d := by
  rw [out2B, sideBySide_apply _ i h d j hj]
  refine out2V_eq (v := fun u => vf u (col h d)) i d (cut2 dil r b hdil hr hb hb' q k1 k2 qf kf hq hk1 hk2 h i) ?_ ?_
  · intro l; rw [cols_apply v1 _ _ l d (by omega), hv1]; rfl
  · intro l; rw [cols_apply v2 _ _ l d (by omega), hv2]; rfl

end Cuts

end Cert.Band

end
-- ==== Proof.Band.Dense.lean ====
/- The dense masked attention over whole sequences, four sequences and four heads at once, in the host operations;
   and its elements. -/
module

public import proofs.«01_k».proof.Proof.Band.Block
public import Idealize.ShloMosaic.PureOps.Reduce

@[expose] public section

noncomputable section

namespace Cert.Band

open Idealize.ShloMosaic

abbrev D0 : Shape := ⟨0, ![]⟩
abbrev DIn : Shape := ⟨4, ![4, 2048, 4, 64]⟩
abbrev DSc : Shape := ⟨4, ![4, 4, 2048, 2048]⟩
abbrev DSc1 : Shape := ⟨4, ![4, 4, 2048, 1]⟩
abbrev DT : Shape := ⟨3, ![4, 4, 2048]⟩
abbrev DOutT : Shape := ⟨4, ![4, 4, 64, 2048]⟩
abbrev DR : Shape := ⟨3, ![4, 2048, 4]⟩
abbrev DR1 : Shape := ⟨4, ![4, 2048, 4, 1]⟩
abbrev DM : Shape := ⟨2, ![2048, 2048]⟩
abbrev DM1 : Shape := ⟨4, ![1, 1, 2048, 2048]⟩

/-- Queries times keys, for each sequence and head. -/
def dotD : DotDims DIn DIn DSc where
  lhsContracting := [3]
  rhsContracting := [3]
  lhsNonContracting := [1]
  rhsNonContracting := [1]
  lhsBatch := [0, 2]
  rhsBatch := [0, 2]
  wf := by decide

/-- Values times weights, for each sequence and head. -/
def dotE : DotDims DIn DSc DOutT where
  lhsContracting := [1]
  rhsContracting := [3]
  lhsNonContracting := [3]
  rhsNonContracting := [2]
  lhsBatch := [0, 2]
  rhsBatch := [0, 1]
  wf := by decide

/-- The distance from the key to the query. -/
def distD : IVec DM 32 := subi (iotaInDim DM 32 0) (iotaInDim DM 32 1)

/-- One word at every pair of positions. -/
def wordD (w : BitVec 32) : IVec DM 32 := broadcastInDim DM ![] (by decide) (constantI D0 32 w)

/-- The mask: a distance from 0 to `win` that `dil` divides. -/
def maskD (win dil : BitVec 32) : IVec DM 1 :=
  andi (andi (cmpi .sge distD (wordD 0#32)) (cmpi .sle distD (wordD win)))
    (cmpi .eq (Host.remsi distD (wordD dil)) (wordD 0#32))

/-- The masked scores. -/
def scoreD (ok : IVec DM 1) (q k : FVec Ideal DIn .f32) : FVec Ideal DSc .f32 :=
  select (broadcastInDim DSc ![0, 1, 2, 3] (by decide) (broadcastInDim DM1 ![2, 3] (by decide) ok))
    (mulf (Host.dotGeneral dotD none q k) (broadcastInDim DSc ![] (by decide) (constant D0 .f32 0x3E000000#32)))
    (broadcastInDim DSc ![] (by decide) (constant D0 .f32 0xFF800000#32))

/-- Each row's maximum. -/
def topD (s : FVec Ideal DSc .f32) : FVec Ideal DSc1 .f32 :=
  broadcastInDim DSc1 ![0, 1, 2] (by decide)
    (Host.reduce FloatOps.maximumf s (constant D0 .f32 0xFF800000#32) (by decide : DSc.ReducesTo [3] DT) (by decide))

/-- The weights. -/
def wgtD (s : FVec Ideal DSc .f32) : FVec Ideal DSc .f32 :=
  Host.exp (subf s (broadcastInDim DSc ![0, 1, 2, 3] (by decide) (topD s)))

/-- Each row's denominator. -/
def denD (s : FVec Ideal DSc .f32) : FVec Ideal DT .f32 :=
  Host.reduceAdd (wgtD s) (constant D0 .f32 0x00000000#32) (by decide : DSc.ReducesTo [3] DT) (by decide)

/-- One value for each row, over a head's columns. -/
def spreadD (x : FVec Ideal DT .f32) : FVec Ideal DIn .f32 :=
  broadcastInDim DIn ![0, 1, 2, 3] (by decide) (broadcastInDim DR1 ![0, 1, 2] (by decide)
    (transpose DR [0, 2, 1] x (by decide)))

/-- The outputs. -/
def outD (s : FVec Ideal DSc .f32) (v : FVec Ideal DIn .f32) : FVec Ideal DIn .f32 :=
  Host.divf (transpose DIn [0, 3, 1, 2] (Host.dotGeneral dotE none v (wgtD s)) (by decide)) (spreadD (denD s))

/-- The log-denominators. -/
def lseD (s : FVec Ideal DSc .f32) : FVec Ideal DIn .f32 :=
  spreadD (addf (shapeCast DT (topD s) (by decide)) (Host.log (denD s)))

/-! ## Their elements -/

/-- A pair of positions passes the mask exactly when the query attends the key. -/
theorem maskD_apply (dil : Nat) (hdil : dil = 1 ∨ dil = 4 ∨ dil = 16) (t u : Fin 2048) :
    maskD (BitVec.ofNat 32 (128 * dil)) (BitVec.ofNat 32 dil) (ix2 t u) = 1#1 ↔ Attends dil t.val u.val := by
  have e : maskD (BitVec.ofNat 32 (128 * dil)) (BitVec.ofNat 32 dil) (ix2 t u)
      = IntOp.andi (IntOp.andi
          (IntOp.cmpi .sge (IntOp.subi (BitVec.ofNat 32 t.val) (BitVec.ofNat 32 u.val)) 0#32)
          (IntOp.cmpi .sle (IntOp.subi (BitVec.ofNat 32 t.val) (BitVec.ofNat 32 u.val)) (BitVec.ofNat 32 (128 * dil))))
          (IntOp.cmpi .eq (IntOp.remsi .host (IntOp.subi (BitVec.ofNat 32 t.val) (BitVec.ofNat 32 u.val))
            (BitVec.ofNat 32 dil)) 0#32) := by
    pointwise [maskD, distD, wordD]
  rw [e]
  have hd1 : 0 < dil ∧ dil ≤ 16 := by omega
  by_cases hle : u.val ≤ t.val
  · have hs : IntOp.subi (BitVec.ofNat 32 t.val) (BitVec.ofNat 32 u.val) = BitVec.ofNat 32 (t.val - u.val) := by
      apply BitVec.eq_of_toNat_eq
      show (BitVec.ofNat 32 t.val - BitVec.ofNat 32 u.val).toNat = _
      rw [BitVec.toNat_sub, BitVec.toNat_ofNat, BitVec.toNat_ofNat, BitVec.toNat_ofNat]; omega
    rw [hs]
    have h1 : IntOp.cmpi .sge (BitVec.ofNat 32 (t.val - u.val)) 0#32 = 1#1 ↔ True := by
      rw [IntOp.cmpi_sge, toInt_small (t.val - u.val) (by omega), show (0#32 : BitVec 32).toInt = 0 from rfl]
      simp
    have h2 : IntOp.cmpi .sle (BitVec.ofNat 32 (t.val - u.val)) (BitVec.ofNat 32 (128 * dil)) = 1#1
        ↔ t.val - u.val ≤ 128 * dil := by
      rw [IntOp.cmpi_sle, toInt_small (t.val - u.val) (by omega), toInt_small (128 * dil) (by omega)]; omega
    have h3 : IntOp.cmpi .eq (IntOp.remsi .host (BitVec.ofNat 32 (t.val - u.val)) (BitVec.ofNat 32 dil)) 0#32 = 1#1
        ↔ (t.val - u.val) % dil = 0 := by
      have hn : (BitVec.ofNat 32 (t.val - u.val)).toNat = t.val - u.val := by rw [BitVec.toNat_ofNat]; omega
      rw [IntOp.cmpi_eq, IntOp.remsi_eq_zero_iff .host (by rw [hn]; omega) dil hd1.1 (by omega), hn, Nat.dvd_iff_mod_eq_zero]
    unfold Attends
    rw [← h2, ← h3, show u.val ≤ t.val ↔ True from ⟨fun _ => trivial, fun _ => hle⟩, ← h1]
    generalize IntOp.cmpi .sge (BitVec.ofNat 32 (t.val - u.val)) 0#32 = x
    generalize IntOp.cmpi .sle (BitVec.ofNat 32 (t.val - u.val)) (BitVec.ofNat 32 (128 * dil)) = y
    generalize IntOp.cmpi .eq (IntOp.remsi .host (BitVec.ofNat 32 (t.val - u.val)) (BitVec.ofNat 32 dil)) 0#32 = z
    revert x y z; decide
  · have h1 : ¬ IntOp.cmpi .sge (IntOp.subi (BitVec.ofNat 32 t.val) (BitVec.ofNat 32 u.val)) 0#32 = 1#1 := by
      rw [IntOp.cmpi_sge, show (0#32 : BitVec 32).toInt = 0 from rfl]
      show ¬ (0 : Int) ≤ (BitVec.ofNat 32 t.val - BitVec.ofNat 32 u.val).toInt
      rw [BitVec.toInt_sub, toInt_small t.val (by omega), toInt_small u.val (by omega), Int.bmod_eq_of_le (by omega) (by omega)]
      omega
    refine ⟨fun h => absurd ?_ h1, fun h => absurd h.1 hle⟩
    revert h
    generalize IntOp.cmpi .sge (IntOp.subi (BitVec.ofNat 32 t.val) (BitVec.ofNat 32 u.val)) 0#32 = x
    generalize IntOp.cmpi .sle (IntOp.subi (BitVec.ofNat 32 t.val) (BitVec.ofNat 32 u.val)) (BitVec.ofNat 32 (128 * dil)) = y
    generalize IntOp.cmpi .eq (IntOp.remsi .host (IntOp.subi (BitVec.ofNat 32 t.val) (BitVec.ofNat 32 u.val)) (BitVec.ofNat 32 dil)) 0#32 = z
    revert x y z; decide

theorem scoreD_apply (ok : IVec DM 1) (q k : FVec Ideal DIn .f32) (n h : Fin 4) (t u : Fin 2048) :
    scoreD ok q k (ix4 n h t u)
      = Scalar.select (ok (ix2 t u)) ((∑ d : Fin 64, q (ix4 n t h d) * k (ix4 n u h d)) * eighth) ⊥ := by
  rw [← ofBits_bot]
  pointwise [scoreD, dotD, eighth]

theorem topD_apply (s : FVec Ideal DSc .f32) (n h : Fin 4) (t : Fin 2048) (z : Fin 1) :
    topD s (ix4 n h t z) = top fun u => s (ix4 n h t u) := by
  pointwise [topD, top]
  generalize (fun x => s (ix4 n h t x)) = g
  exact congrArg (fun b => Finset.fold max b g Finset.univ) ofBits_bot

theorem wgtD_apply (s : FVec Ideal DSc .f32) (n h : Fin 4) (t u : Fin 2048) :
    wgtD s (ix4 n h t u) = wgt (topD s (ix4 n h t 0)) (s (ix4 n h t u)) := by
  pointwise [wgtD, wgt]

theorem denD_apply (s : FVec Ideal DSc .f32) (n h : Fin 4) (t : Fin 2048) :
    denD s (ix3 n h t) = ∑ u : Fin 2048, wgtD s (ix4 n h t u) := by
  pointwise [denD]

theorem spreadD_apply (x : FVec Ideal DT .f32) (n h : Fin 4) (t : Fin 2048) (d : Fin 64) :
    spreadD x (ix4 n t h d) = x (ix3 n h t) := by
  pointwise [spreadD]

theorem outD_apply (s : FVec Ideal DSc .f32) (v : FVec Ideal DIn .f32) (n h : Fin 4) (t : Fin 2048) (d : Fin 64) :
    outD s v (ix4 n t h d)
      = Ideal.div (∑ u : Fin 2048, v (ix4 n u h d) * wgtD s (ix4 n h t u)) (denD s (ix3 n h t)) := by
  pointwise [outD, dotE, spreadD]

theorem dropD_apply (x : FVec Ideal DSc1 .f32) (hc : DSc1.ShapeCasts DT) (n h : Fin 4) (t : Fin 2048) :
    shapeCast DT x hc (ix3 n h t) = x (ix4 n h t 0) := by
  refine shapeCast_apply x hc (ix3 n h t) (ix4 n h t 0) ?_
  rewrite [Shape.rowMajor_val_four, Shape.rowMajor_val_three]
  show ((n.val * 4 + h.val) * 2048 + t.val) * 1 + 0 = (n.val * 4 + h.val) * 2048 + t.val
  omega

theorem addLog_apply (x y : FVec Ideal DT .f32) (i : DT.Idx) : addf x (Host.log y) i = x i + Ideal.log (y i) := rfl

theorem lseD_apply (s : FVec Ideal DSc .f32) (n h : Fin 4) (t : Fin 2048) (d : Fin 64) :
    lseD s (ix4 n t h d) = topD s (ix4 n h t 0) + Ideal.log (denD s (ix3 n h t)) := by
  rw [lseD, spreadD_apply, addLog_apply, dropD_apply]

/-! ## The outputs are the softmax averages -/

section Values
variable (dil : Nat) (hdil : dil = 1 ∨ dil = 4 ∨ dil = 16) (q k v : FVec Ideal DIn .f32)
  (n : Fin 4) (qf kf vf : Fin 2048 → Fin 256 → EReal)
  (hq : ∀ t h d, q (ix4 n t h d) = qf t (col h d)) (hk : ∀ t h d, k (ix4 n t h d) = kf t (col h d))
include hdil hq hk

theorem scoreD_eq (h : Fin 4) (t u : Fin 2048) :
    scoreD (maskD (BitVec.ofNat 32 (128 * dil)) (BitVec.ofNat 32 dil)) q k (ix4 n h t u) = score dil qf kf h t u := by
  rw [scoreD_apply, score]
  simp only [hq, hk]
  by_cases ha : Attends dil t.val u.val
  · rw [if_pos ha, select_of ((maskD_apply dil hdil t u).2 ha)]
  · rw [if_neg ha, select_of_not fun e => ha ((maskD_apply dil hdil t u).1 e)]

/-- The dense log-denominators. -/
theorem lseD_eq (t : Fin 2048) (h : Fin 4) (d : Fin 64) :
    lseD (scoreD (maskD (BitVec.ofNat 32 (128 * dil)) (BitVec.ofNat 32 dil)) q k) (ix4 n t h d)
      = attLse dil qf kf t h := by
  rw [lseD_apply, denD_apply, attLse]
  simp only [wgtD_apply, topD_apply, scoreD_eq dil hdil q k n qf kf hq hk]

/-- The dense outputs. -/
theorem outD_eq (hv : ∀ t h d, v (ix4 n t h d) = vf t (col h d)) (t : Fin 2048) (h : Fin 4) (d : Fin 64) :
    outD (scoreD (maskD (BitVec.ofNat 32 (128 * dil)) (BitVec.ofNat 32 dil)) q k) v (ix4 n t h d)
      = attOut dil qf kf vf t h d := by
  rw [outD_apply, denD_apply, attOut]
  simp only [wgtD_apply, topD_apply, scoreD_eq dil hdil q k n qf kf hq hk, hv]

end Values

end Cert.Band

end
-- ==== Proof.Band.Whole.lean ====
/- The attention's results as whole arrays: which position, head and column an element of a result holds, and the
   block and the dense forms read there. -/
module

public import proofs.«01_k».proof.Proof.Band.Dense

@[expose] public section

noncomputable section

namespace Cert.Band

open Idealize.ShloMosaic

/-- One group's 256 columns, from column `o` on, of the four sequences' rows. -/
def part {w : Nat} (x : FVec Ideal ⟨2, ![8448, w]⟩ .f32) (o : Nat) (ho : o + 256 ≤ w) (n : Fin 4) (t : Fin 2048)
    (c : Fin 256) : EReal :=
  x (ix2 ⟨n.val * 2048 + t.val, by omega⟩ ⟨o + c.val, by omega⟩)

section
variable (dil : Nat) (qf kf vf : Fin 4 → Fin 2048 → Fin 256 → EReal) (R C : Nat)

/-- Sequence, position, head and column of the element in row `R` and column `C`. -/
def seqOf : Fin 4 := Fin.ofNat 4 (R / (2048 / dil))
def posOf : Fin 2048 := Fin.ofNat 2048 (C / 256 + dil * (R % (2048 / dil)))
def headOf : Fin 4 := Fin.ofNat 4 (C % 256 / 64)
def colOf : Fin 64 := Fin.ofNat 64 (C % 64)

/-- The output's element in row `R` and column `C`. -/
def outAt : EReal :=
  attOut dil (qf (seqOf dil R)) (kf (seqOf dil R)) (vf (seqOf dil R)) (posOf dil R C) (headOf C) (colOf C)

/-- The log-denominators' element in row `R` and column `C`. -/
def lseAt : EReal := attLse dil (qf (seqOf dil R)) (kf (seqOf dil R)) (posOf dil R C) (headOf C)

end

theorem head_split (j : Fin 256) (r : Nat) :
    j.val = 64 * (headOf (r * 256 + j.val)).val + (colOf (r * 256 + j.val)).val := by
  show j.val = 64 * ((r * 256 + j.val) % 256 / 64 % 4) + (r * 256 + j.val) % 64 % 64
  omega

theorem seqOf_block (dil : Nat) (hdil : dil = 1 ∨ dil = 4 ∨ dil = 16) (n : Fin 4) (a : Nat) (ha : dil * a < 2048) :
    seqOf dil (n.val * (2048 / dil) + a) = n := by
  apply Fin.ext
  show (n.val * (2048 / dil) + a) / (2048 / dil) % 4 = n.val
  rcases hdil with rfl | rfl | rfl <;> omega

theorem posOf_block (dil : Nat) (hdil : dil = 1 ∨ dil = 4 ∨ dil = 16) (n : Fin 4) (r b : Nat) (hr : r < dil)
    (hb : dil * (128 * b + 128) ≤ 2048) (i : Fin 128) (j : Fin 256) :
    posOf dil (n.val * (2048 / dil) + (128 * b + i.val)) (r * 256 + j.val) = pos dil r b hr hb i := by
  apply Fin.ext
  show ((r * 256 + j.val) / 256 + dil * ((n.val * (2048 / dil) + (128 * b + i.val)) % (2048 / dil))) % 2048
    = r + dil * (128 * b + i.val)
  rcases hdil with rfl | rfl | rfl <;> omega

section Blocks
variable (dil : Nat) (hdil : dil = 1 ∨ dil = 4 ∨ dil = 16) (n : Fin 4) (r b : Nat) (hr : r < dil)
  (hb : dil * (128 * b + 128) ≤ 2048)
  (q k1 k2 v1 v2 : FVec Ideal Q256 .f32) (qf kf vf : Fin 4 → Fin 2048 → Fin 256 → EReal)
  (hb' : dil * (128 * (b - 1) + 128) ≤ 2048)
  (hq : ∀ i c, q (ix2 i c) = qf n (pos dil r b hr hb i) c)
  (hk1 : ∀ i c, k1 (ix2 i c) = kf n (pos dil r b hr hb i) c)
  (hk2 : ∀ i c, k2 (ix2 i c) = kf n (pos dil r (b - 1) hr hb' i) c)
include hdil hq hk1 hk2

theorem lse2B_at (i : Fin 128) (j : Fin 256) :
    lse2B curOk (prevOk (BitVec.ofNat 32 b)) q k1 k2 (ix2 i j)
      = lseAt dil qf kf (n.val * (2048 / dil) + (128 * b + i.val)) (r * 256 + j.val) := by
  have ha : dil * (128 * b + i.val) < 2048 := by rcases hdil with rfl | rfl | rfl <;> omega
  rw [lseAt, seqOf_block dil hdil n _ ha, posOf_block dil hdil n r b hr hb]
  exact lse2B_eq dil r b hdil hr hb hb' q k1 k2 _ _ hq hk1 hk2 i _ _ j (head_split j r)

theorem out2B_at (hv1 : ∀ i c, v1 (ix2 i c) = vf n (pos dil r b hr hb i) c)
    (hv2 : ∀ i c, v2 (ix2 i c) = vf n (pos dil r (b - 1) hr hb' i) c) (i : Fin 128) (j : Fin 256) :
    out2B curOk (prevOk (BitVec.ofNat 32 b)) q k1 k2 v1 v2 (ix2 i j)
      = outAt dil qf kf vf (n.val * (2048 / dil) + (128 * b + i.val)) (r * 256 + j.val) := by
  have ha : dil * (128 * b + i.val) < 2048 := by rcases hdil with rfl | rfl | rfl <;> omega
  rw [outAt, seqOf_block dil hdil n _ ha, posOf_block dil hdil n r b hr hb]
  exact out2B_eq dil r b hdil hr hb hb' q k1 k2 v1 v2 _ _ _ hq hk1 hk2 hv1 hv2 i _ _ j (head_split j r)

end Blocks

/-! ## The dense form -/

/-- A group's columns, with the sequences, heads and columns as axes of their own. -/
theorem split_apply {w : Nat} (x : FVec Ideal ⟨2, ![8448, w]⟩ .f32) (o : Nat) (ho : o + 256 ≤ w)
    (hs : Shape.Slices (⟨2, ![8448, w]⟩ : Shape) ![0, o] ⟨2, ![8192, 256]⟩)
    (hc : Shape.ShapeCasts (⟨2, ![8192, 256]⟩ : Shape) DIn) (n : Fin 4) (t : Fin 2048) (h : Fin 4) (d : Fin 64) :
    shapeCast DIn (extractStridedSlice ⟨2, ![8192, 256]⟩ ![0, o] x hs) hc (ix4 n t h d) = part x o ho n t (col h d) := by
  refine (shapeCast_apply _ hc (ix4 n t h d) (ix2 (⟨n.val * 2048 + t.val, by omega⟩ : Fin 8192)
    (⟨64 * h.val + d.val, by omega⟩ : Fin 256)) ?_).trans ?_
  · rewrite [Shape.rowMajor_val_four, Shape.rowMajor_val_two]
    show (n.val * 2048 + t.val) * 256 + (64 * h.val + d.val) = ((n.val * 2048 + t.val) * 4 + h.val) * 64 + d.val
    omega
  · exact extractStridedSlice_apply _ x hs _ (ix2 ⟨n.val * 2048 + t.val, by omega⟩ ⟨o + (64 * h.val + d.val), by omega⟩)
      fun a => match a with
        | ⟨0, _⟩ => (Nat.zero_add _).symm
        | ⟨1, _⟩ => rfl

/-- A result with positions, heads and columns as axes of their own, laid out as rows of one class step each. -/
theorem join_apply (dil : Nat) (hdil : dil = 1 ∨ dil = 4 ∨ dil = 16) (x : FVec Ideal DIn .f32) {h w : Nat}
    (hh : h = 8192 / dil) (hw : w = dil * 256)
    (hc : DIn.ShapeCasts (⟨2, ![h, w]⟩ : Shape)) (R : Fin h) (C : Fin w) :
    shapeCast (⟨2, ![h, w]⟩ : Shape) x hc (ix2 R C)
      = x (ix4 (seqOf dil R.val) (posOf dil R.val C.val) (headOf C.val) (colOf C.val)) := by
  refine shapeCast_apply x hc _ _ ?_
  rewrite [Shape.rowMajor_val_four, Shape.rowMajor_val_two]
  show (((R.val / (2048 / dil) % 4) * 2048 + (C.val / 256 + dil * (R.val % (2048 / dil))) % 2048) * 4
    + C.val % 256 / 64 % 4) * 64 + C.val % 64 % 64 = R.val * w + C.val
  have h1 := R.isLt
  have h2 := C.isLt
  subst hh hw
  rcases hdil with rfl | rfl | rfl <;> omega

section Dense
variable (dil : Nat) (hdil : dil = 1 ∨ dil = 4 ∨ dil = 16) (q k v : FVec Ideal DIn .f32)
  (qf kf vf : Fin 4 → Fin 2048 → Fin 256 → EReal)
  (hq : ∀ n t h d, q (ix4 n t h d) = qf n t (col h d)) (hk : ∀ n t h d, k (ix4 n t h d) = kf n t (col h d))
  {hh w : Nat} (e1 : hh = 8192 / dil) (e2 : w = dil * 256) (hc : DIn.ShapeCasts (⟨2, ![hh, w]⟩ : Shape))
include hdil hq hk e1 e2

theorem lseD_at (R : Fin hh) (C : Fin w) :
    shapeCast (⟨2, ![hh, w]⟩ : Shape)
        (lseD (scoreD (maskD (BitVec.ofNat 32 (128 * dil)) (BitVec.ofNat 32 dil)) q k)) hc (ix2 R C)
      = lseAt dil qf kf R.val C.val := by
  rw [join_apply dil hdil _ e1 e2]
  exact lseD_eq dil hdil q k _ _ _ (hq _) (hk _) _ _ _

theorem outD_at (hv : ∀ n t h d, v (ix4 n t h d) = vf n t (col h d)) (R : Fin hh) (C : Fin w) :
    shapeCast (⟨2, ![hh, w]⟩ : Shape)
        (outD (scoreD (maskD (BitVec.ofNat 32 (128 * dil)) (BitVec.ofNat 32 dil)) q k) v) hc (ix2 R C)
      = outAt dil qf kf vf R.val C.val := by
  rw [join_apply dil hdil _ e1 e2]
  exact outD_eq dil hdil q k v _ _ _ _ (hq _) (hk _) (hv _) _ _ _

end Dense

end Cert.Band

end
-- ==== Proof.Layer.Band1.lean ====
/- The attention at dilation 4: the kernel's result arrays and the reference's, both element by element as the softmax
   over the attended positions. -/
module

public import proofs.«01_k».proof.Proof.Gen.Band1Ideal.Value
public import proofs.«01_k».proof.Proof.Gen.Band1RefIdeal.Run
public import proofs.«01_k».proof.Defs
public import proofs.«01_k».proof.Proof.Band.Whole
public import Idealize.ShloMosaic.Adequacy
public import Idealize.ShloMosaic.Init
public import Idealize.ShloMosaic.Lib.Pipeline.ValueKit

@[expose] public section

noncomputable section

namespace Cert.Band1Proof

open Idealize.ShloMosaic Idealize.ShloMosaic.TcCoe Idealize.SL.Sem
open Idealize.ShloMosaic.Pipeline (Dat)
open Cert.Band

section Kernel
open Cert.Band1Ideal Cert.Band1Ideal.Gen
variable (m : (ℓ : Loc nD τ sig) → Buf (Elt Ideal) ℓ) (c : Dev nD)

/-- What a point writes to the output, from its five blocks. -/
theorem out_block (t : Fin cfg0.N) :
    (outsAt0 m c t).1 = out2B curOk (prevOk (BitVec.ofNat 32 (grid0.coords t 2).val))
      (X0_0 m c t) (X0_1 m c t) (X0_2 m c t) (X0_3 m c t) (X0_4 m c t) := by
  unfold outsAt0
  dsimp only
  frame_out
  rfl

/-- What a point writes to the log-denominators. -/
theorem lse_block (t : Fin cfg0.N) :
    (outsAt0 m c t).2 = lse2B curOk (prevOk (BitVec.ofNat 32 (grid0.coords t 2).val))
      (X0_0 m c t) (X0_1 m c t) (X0_2 m c t) := by
  unfold outsAt0
  dsimp only
  frame_out
  rfl

/-- Which block each window holds at a point. -/
theorem idx : ∀ t : Fin cfg0.N,
    win0_0.index t = ![(grid0.coords t 0).val * 4 + (grid0.coords t 2).val, (grid0.coords t 1).val * 3 + 1]
    ∧ win0_1.index t = ![(grid0.coords t 0).val * 4 + (grid0.coords t 2).val, (grid0.coords t 1).val * 3 + 1]
    ∧ win0_2.index t = ![(grid0.coords t 0).val * 4 + ((grid0.coords t 2).val - 1), (grid0.coords t 1).val * 3 + 1]
    ∧ win0_3.index t = ![(grid0.coords t 0).val * 4 + (grid0.coords t 2).val, (grid0.coords t 1).val * 9 + 7]
    ∧ win0_4.index t = ![(grid0.coords t 0).val * 4 + ((grid0.coords t 2).val - 1), (grid0.coords t 1).val * 9 + 7]
    ∧ win0_5.index t = ![(grid0.coords t 0).val * 4 + (grid0.coords t 2).val, (grid0.coords t 1).val]
    ∧ win0_6.index t = ![(grid0.coords t 0).val * 4 + (grid0.coords t 2).val, (grid0.coords t 1).val] := by
  decide +kernel

theorem bnd : ∀ t : Fin cfg0.N,
    (grid0.coords t 0).val < 4 ∧ (grid0.coords t 1).val < 4 ∧ (grid0.coords t 2).val < 4 := by decide +kernel

/-- The point's sequence. -/
def nOf (t : Fin cfg0.N) : Fin 4 := ⟨(grid0.coords t 0).val, (bnd t).1⟩

/-- The group's columns of the queries, the keys and the values. -/
def qf := part (m ((c : Thread nD τ).loc main_arg0)) 256 (by decide)
def kf := part (m ((c : Thread nD τ).loc main_arg1)) 256 (by decide)
def vf := part (m ((c : Thread nD τ).loc main_arg2)) 1792 (by decide)

theorem in_cur (t : Fin cfg0.N) : 4 * (128 * (grid0.coords t 2).val + 128) ≤ 2048 := by have := bnd t; omega
theorem in_prev (t : Fin cfg0.N) : 4 * (128 * ((grid0.coords t 2).val - 1) + 128) ≤ 2048 := by have := bnd t; omega

theorem q_block (t : Fin cfg0.N) (i : Fin 128) (j : Fin 256) :
    X0_0 m c t (ix2 i j) = qf m c (nOf t) (pos 4 (grid0.coords t 1).val (grid0.coords t 2).val (bnd t).2.1 (in_cur t) i) j := by
  unfold X0_0 Pipeline.Window.fill
  rw [dif_pos (moved0_0 t _)]
  blk_simp [iblk, idx t, qf, part, pos, nOf]
  have hb := bnd t
  entry_read
  pointwise
  blk_ext [idx t]

theorem k_block (t : Fin cfg0.N) (i : Fin 128) (j : Fin 256) :
    X0_1 m c t (ix2 i j) = kf m c (nOf t) (pos 4 (grid0.coords t 1).val (grid0.coords t 2).val (bnd t).2.1 (in_cur t) i) j := by
  unfold X0_1 Pipeline.Window.fill
  rw [dif_pos (moved0_1 t _)]
  blk_simp [iblk, idx t, kf, part, pos, nOf]
  have hb := bnd t
  entry_read
  pointwise
  blk_ext [idx t]

theorem k_block' (t : Fin cfg0.N) (i : Fin 128) (j : Fin 256) :
    X0_2 m c t (ix2 i j) = kf m c (nOf t) (pos 4 (grid0.coords t 1).val ((grid0.coords t 2).val - 1) (bnd t).2.1 (in_prev t) i) j := by
  unfold X0_2 Pipeline.Window.fill
  rw [dif_pos (moved0_2 t _)]
  blk_simp [iblk, idx t, kf, part, pos, nOf]
  have hb := bnd t
  entry_read
  pointwise
  blk_ext [idx t]

theorem v_block (t : Fin cfg0.N) (i : Fin 128) (j : Fin 256) :
    X0_3 m c t (ix2 i j) = vf m c (nOf t) (pos 4 (grid0.coords t 1).val (grid0.coords t 2).val (bnd t).2.1 (in_cur t) i) j := by
  unfold X0_3 Pipeline.Window.fill
  rw [dif_pos (moved0_3 t _)]
  blk_simp [iblk, idx t, vf, part, pos, nOf]
  have hb := bnd t
  entry_read
  pointwise
  blk_ext [idx t]

theorem v_block' (t : Fin cfg0.N) (i : Fin 128) (j : Fin 256) :
    X0_4 m c t (ix2 i j) = vf m c (nOf t) (pos 4 (grid0.coords t 1).val ((grid0.coords t 2).val - 1) (bnd t).2.1 (in_prev t) i) j := by
  unfold X0_4 Pipeline.Window.fill
  rw [dif_pos (moved0_4 t _)]
  blk_simp [iblk, idx t, vf, part, pos, nOf]
  have hb := bnd t
  entry_read
  pointwise
  blk_ext [idx t]

/-- What a point writes to the output, at an element. -/
theorem out_point (t : Fin cfg0.N) (i : Fin 128) (j : Fin 256) :
    (outsAt0 m c t).1 (ix2 i j) = outAt 4 (qf m c) (kf m c) (vf m c)
      ((grid0.coords t 0).val * 512 + (128 * (grid0.coords t 2).val + i.val)) ((grid0.coords t 1).val * 256 + j.val) := by
  rw [out_block]
  exact out2B_at 4 (by decide) (nOf t) (grid0.coords t 1).val (grid0.coords t 2).val (bnd t).2.1 (in_cur t) _ _ _ _ _
    (qf m c) (kf m c) (vf m c) (in_prev t) (q_block m c t) (k_block m c t) (k_block' m c t) (v_block m c t)
    (v_block' m c t) i j

/-- What a point writes to the log-denominators, at an element. -/
theorem lse_point (t : Fin cfg0.N) (i : Fin 128) (j : Fin 256) :
    (outsAt0 m c t).2 (ix2 i j) = lseAt 4 (qf m c) (kf m c)
      ((grid0.coords t 0).val * 512 + (128 * (grid0.coords t 2).val + i.val)) ((grid0.coords t 1).val * 256 + j.val) := by
  rw [lse_block]
  exact lse2B_at 4 (by decide) (nOf t) (grid0.coords t 1).val (grid0.coords t 2).val (bnd t).2.1 (in_cur t) _ _ _
    (qf m c) (kf m c) (in_prev t) (q_block m c t) (k_block m c t) (k_block' m c t) i j

/-- The kernel's output array. -/
theorem out_array : (dats m 0 c).arrAt 5 cfg0.N
    = fun I : S2048x1024.Idx => outAt 4 (qf m c) (kf m c) (vf m c) (I 0).val (I 1).val := by
  refine (dats m 0 c).arrAt_eq_of_covers 5 _ (by decide +kernel) fun t hf y => ?_
  blk_simp
  rw [after0_5]
  have e := out_point m c t (y 0) (y 1)
  refine ((congrArg (outsAt0 m c t).1 (eq_ix2 y)).trans e).trans (congrArg₂ (outAt 4 (qf m c) (kf m c) (vf m c)) ?_ ?_)
  · rw [(idx t).2.2.2.2.2.1]
    show _ = ((grid0.coords t 0).val * 4 + (grid0.coords t 2).val) * 128 + (y 0).val
    omega
  · rw [(idx t).2.2.2.2.2.1]
    rfl

/-- The kernel's log-denominator array. -/
theorem lse_array : (dats m 0 c).arrAt 6 cfg0.N
    = fun I : S2048x1024.Idx => lseAt 4 (qf m c) (kf m c) (I 0).val (I 1).val := by
  refine (dats m 0 c).arrAt_eq_of_covers 6 _ (by decide +kernel) fun t hf y => ?_
  blk_simp
  rw [after0_6]
  have e := lse_point m c t (y 0) (y 1)
  refine ((congrArg (outsAt0 m c t).2 (eq_ix2 y)).trans e).trans (congrArg₂ (lseAt 4 (qf m c) (kf m c)) ?_ ?_)
  · rw [(idx t).2.2.2.2.2.2]
    show _ = ((grid0.coords t 0).val * 4 + (grid0.coords t 2).val) * 128 + (y 0).val
    omega
  · rw [(idx t).2.2.2.2.2.2]
    rfl

end Kernel

section Reference
open Cert.Band1RefIdeal
variable (m : (ℓ : Loc nD τ sig) → Buf (Elt Ideal) ℓ) (c : Dev nD)

/-- The reference's output array. -/
theorem ref_out : Value.res_out0 m c
    = fun I : S2048x1024.Idx => outAt 4 (part (m ((c.tc : Thread nD τ).loc main_arg0)) 256 (by decide))
        (part (m ((c.tc : Thread nD τ).loc main_arg1)) 256 (by decide))
        (part (m ((c.tc : Thread nD τ).loc main_arg2)) 1792 (by decide)) (I 0).val (I 1).val := by
  funext I
  rw [eq_ix2 I]
  exact outD_at 4 (by decide) _ _ _ _ _ _ (fun n t h d => split_apply _ 256 (by decide) _ _ n t h d)
    (fun n t h d => split_apply _ 256 (by decide) _ _ n t h d) rfl rfl _
    (fun n t h d => split_apply _ 1792 (by decide) _ _ n t h d) (I 0) (I 1)

/-- The reference's log-denominator array. -/
theorem ref_lse : Value.res_out1 m c
    = fun I : S2048x1024.Idx => lseAt 4 (part (m ((c.tc : Thread nD τ).loc main_arg0)) 256 (by decide))
        (part (m ((c.tc : Thread nD τ).loc main_arg1)) 256 (by decide)) (I 0).val (I 1).val := by
  funext I
  rw [eq_ix2 I]
  exact lseD_at 4 (by decide) _ _ _ _ (fun n t h d => split_apply _ 256 (by decide) _ _ n t h d)
    (fun n t h d => split_apply _ 256 (by decide) _ _ n t h d) rfl rfl _ (I 0) (I 1)

end Reference

/-- The reference ends with its arguments as they were; it has no semaphore. -/
theorem ref_frame : Cert.quiescent_Band1RefIdeal (hBand1RefIdeal := Cert.Band1RefIdeal.Gen.facts) := fun m g _ =>
  (θ_run Cert.Band1RefIdeal.defs _ _).mono (fun r h => ⟨fun c => (h c).2.2, sem_eq_zero_of_no_sems (by decide) r.2⟩)
    (Cert.Band1RefIdeal.Value.run m g)

/-- The attention at dilation 4: the kernel's outputs and log-denominators are the dense masked softmax's. -/
theorem value : Cert.algebraic_Band1Ideal_Band1RefIdeal (hBand1Ideal := Cert.Band1Ideal.Gen.facts)
    (hBand1RefIdeal := Cert.Band1RefIdeal.Gen.facts) := by
  intro m g m' g' _ hargs
  refine ⟨_, _, Cert.Band1Ideal.Value.run_blocks m g,
    (θ_run Cert.Band1RefIdeal.defs _ _).mono (fun r h c => ?_) (Cert.Band1RefIdeal.Value.run m' g')⟩
  obtain ⟨h0, h1, h2⟩ := h c
  refine ⟨h0.trans ?_, h1.trans ?_, h2⟩
  · rw [out_array]
    refine (ref_out m' c).trans ?_
    rw [(hargs c).1, (hargs c).2.1, (hargs c).2.2]
    rfl
  · rw [lse_array]
    refine (ref_lse m' c).trans ?_
    rw [(hargs c).1, (hargs c).2.1]
    rfl

end Cert.Band1Proof

end
-- ==== Proof.Layer.Norm.lean ====
/- The root-mean-square normalisation of a row, and its product with a matrix, element by element. -/
module

public import Idealize.ShloMosaic.Lib.Pointwise

@[expose] public section

noncomputable section

namespace Cert.Layer

open Idealize.ShloMosaic

/-- Entry `k` of the row `x` over the root of its mean square (plus a small constant). -/
def rms (x : Fin 2048 → EReal) (k : Fin 2048) : EReal :=
  x k * Ideal.rsqrt (Ideal.div (∑ l, x l * x l) (Ideal.ofBits .f32 0x45000000#32) + Ideal.ofBits .f32 0x358637BD#32)

/-- The same times the gain `g`. -/
def normAt (x g : Fin 2048 → EReal) (k : Fin 2048) : EReal := rms x k * g k

/-- Entry of the normalised row's product with the column `w`. -/
def projAt (x g w : Fin 2048 → EReal) : EReal := ∑ k, normAt x g k * w k

/-- The residual stream's entry plus the product of a row with a column. -/
def resAt (x : EReal) (a w : Fin 2048 → EReal) : EReal := x + ∑ k, a k * w k

/-- The logistic function written out. -/
theorem sigmoid (x : EReal) : Ideal.div 1 (1 + Ideal.exp (-x)) = Ideal.logistic x := by
  rw [Ideal.logistic]

/-- A matrix is given by its elements at rows and columns. -/
theorem ext2 {a b : ℕ} {f : (⟨2, ![a, b]⟩ : Shape).Idx → EReal} {g : Fin a → Fin b → EReal}
    (h : ∀ i j, f (ix2 i j) = g i j) : f = fun I => g (I 0) (I 1) :=
  funext fun I => (congrArg f (eq_ix2 I)).trans (h (I 0) (I 1))

/-- Entry `j` of the residual stream after the per-layer embedding step: `x + f`, plus the gate of its normalisation times
    the embedding's product. -/
def pleAt (x f : Fin 2048 → EReal) (p : Fin 256 → EReal) (g : Fin 2048 → EReal) (wg : Fin 2048 → Fin 2048 → EReal)
    (wp : Fin 256 → Fin 2048 → EReal) (j : Fin 2048) : EReal :=
  x j + f j + Ideal.logistic (projAt (fun k => x k + f k) g fun k => wg k j) * ∑ l, p l * wp l j

/-- What is carried through runs of `J` steps: a property of the run's number that the first step of a run establishes and
    the others, which leave the value as it was, keep. -/
theorem carried {α : Type} (J N : ℕ) (hJ : 0 < J) (f : (n : ℕ) → n < N → α) (P : ℕ → α → Prop)
    (h0 : ∀ n h, n % J = 0 → P (n / J) (f n h))
    (hs : ∀ n h, ¬ n % J = 0 → f n h = f (n - 1) (Nat.lt_of_le_of_lt (Nat.sub_le _ _) h)) :
    ∀ n h, P (n / J) (f n h) := by
  intro n
  induction n with
  | zero => exact fun h => h0 0 h (Nat.zero_mod _)
  | succ n ih =>
    intro h
    by_cases e : (n + 1) % J = 0
    · exact h0 _ h e
    · rw [hs _ h e]
      have q : (n + 1) / J = n / J := by
        rw [Nat.succ_div, if_neg fun d => e (Nat.mod_eq_zero_of_dvd d), Nat.add_zero]
      rw [q]
      exact ih (Nat.lt_of_succ_lt h)

end Cert.Layer

end
-- ==== Proof.Layer.ProjQkv.lean ====
/- The input projection to the queries, keys and values: the kernel's result array, element by element. -/
module

public import proofs.«01_k».proof.Proof.Gen.ProjQkvIdeal.Value
public import proofs.«01_k».proof.Proof.Gen.ProjQkvRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.ProjQkvProof

open Idealize.ShloMosaic Idealize.ShloMosaic.TcCoe Idealize.SL.Sem
open Idealize.ShloMosaic.Pipeline (Dat)
open Cert.Layer

section Kernel
open Cert.ProjQkvIdeal Cert.ProjQkvIdeal.Gen
variable (m : (ℓ : Loc nD τ sig) → Buf (Elt Ideal) ℓ) (c : Dev nD)

/-- Which block each window holds at a point. -/
theorem idx : ∀ t : Fin cfg0.N, win0_0.index t = ![t.val / 3, 0] ∧ win0_1.index t = ![0, 0]
    ∧ win0_2.index t = ![0, t.val % 3] ∧ win0_3.index t = ![t.val / 3, t.val % 3] := by
  decide +kernel

/-- The normalised input at a row, from the arguments. -/
def xn (R : Fin 8448) (k : Fin 2048) : EReal :=
  normAt (fun k => m ((c : Thread nD τ).loc main_arg0) (ix2 R k)) (fun k => m ((c : Thread nD τ).loc main_arg1) (ix1 k)) k

theorem row_lt (n : ℕ) (hn : n < cfg0.N) (i : Fin 768) : n / 3 * 768 + i.val < 8448 := by
  have : n < 33 := hn
  omega

theorem x_block (t : Fin cfg0.N) (i : Fin 768) (k : Fin 2048) : iblk m c 0 t (ix2 i k)
    = m ((c : Thread nD τ).loc main_arg0) (ix2 ⟨t.val / 3 * 768 + i.val, row_lt t.val t.isLt i⟩ k) := by
  blk_simp [iblk, idx t]
  entry_read
  blk_ext [idx t]

theorem g_block (t : Fin cfg0.N) (k : Fin 2048) : iblk m c 1 t (ix2 0 k) = m ((c : Thread nD τ).loc main_arg1) (ix1 k) := by
  blk_simp [iblk, idx t]
  entry_read
  pointwise
  blk_ext [idx t]

theorem w_block (t : Fin cfg0.N) (k : Fin 2048) (j : Fin 768) : iblk m c 2 t (ix2 k j)
    = m ((c : Thread nD τ).loc main_arg2) (ix2 k ⟨t.val % 3 * 768 + j.val, by omega⟩) := by
  blk_simp [iblk, idx t]
  entry_read
  pointwise
  blk_ext [idx t]

/-- What the scratch is given at the first point of a row of blocks. -/
theorem fresh (t : Fin cfg0.N) (i : Fin 768) (k : Fin 2048) :
    k0_pay1 (iblk m c 0 t) (iblk m c 1 t) (ix2 i k) = xn m c ⟨t.val / 3 * 768 + i.val, row_lt t.val t.isLt i⟩ k := by
  pointwise [k0_pay1]
  simp only [x_block, g_block]
  rfl

/-- The scratch holds the normalised rows of the point's row of blocks. -/
theorem held (t : Fin cfg0.N) (i : Fin 768) (k : Fin 2048) :
    (outsAt0 m c t.val t.isLt).2 (ix2 i k) = xn m c ⟨t.val / 3 * 768 + i.val, row_lt t.val t.isLt i⟩ k := by
  refine carried 3 cfg0.N (by decide) (fun n h => (outsAt0 m c n h).2)
    (fun q v => ∀ h : q * 768 + i.val < 8448, v (ix2 i k) = xn m c ⟨q * 768 + i.val, h⟩ k)
    (fun n h e hR => ?_) (fun n h e => ?_) t.val t.isLt _
  · refine Eq.trans ?_ (fresh m c ⟨n, h⟩ i k)
    rw [outsAt0_A m c ⟨n, h⟩ e]
    frame_out
  · show (outsAt0 m c n h).2 = _
    rw [outsAt0_B m c ⟨n, h⟩ e]
    rfl

/-- What a point writes: the product of the scratch with the point's columns. -/
theorem out_point (t : Fin cfg0.N) : (outsAt0 m c t.val t.isLt).1 = k0_pay2 (outsAt0 m c t.val t.isLt).2 (iblk m c 2 t) := by
  by_cases h : t.val % 3 = 0
  · rw [outsAt0_A m c t h]
    frame_out
  · rw [outsAt0_B m c t h]
    frame_out
    simp only [read_unread_whole]
    rfl

/-- The result at row `R` and column `j`, from the arguments. -/
def val (R : Fin 8448) (j : Fin 2304) : EReal :=
  projAt (fun k => m ((c : Thread nD τ).loc main_arg0) (ix2 R k)) (fun k => m ((c : Thread nD τ).loc main_arg1) (ix1 k))
    (fun k => m ((c : Thread nD τ).loc main_arg2) (ix2 k ⟨j.val, by omega⟩))

/-- What a point writes, at an element. -/
theorem out_at (t : Fin cfg0.N) (i : Fin 768) (j : Fin 768) : (outsAt0 m c t.val t.isLt).1 (ix2 i j)
    = val m c ⟨t.val / 3 * 768 + i.val, row_lt t.val t.isLt i⟩ ⟨t.val % 3 * 768 + j.val, by omega⟩ := by
  rw [out_point]
  pointwise [k0_pay2]
  exact Finset.sum_congr rfl fun k _ => congrArg₂ (· * ·) (held m c t i k) (w_block m c t k j)

/-- The kernel's result array. -/
theorem out_array : (dats m 0 c).arrAt 3 cfg0.N = fun I : S8448x2304.Idx => val m c (I 0) (I 1) := by
  refine (dats m 0 c).arrAt_eq_of_covers 3 _ (by decide +kernel) fun t hf y => ?_
  blk_simp
  rw [after0_3]
  refine ((congrArg (outsAt0 m c t.val t.isLt).1 (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_ProjQkvRefIdeal (hProjQkvRefIdeal := Cert.ProjQkvRefIdeal.Gen.facts) := fun m g _ =>
  (θ_run Cert.ProjQkvRefIdeal.defs _ _).mono (fun r h => ⟨fun c => (h c).2, sem_eq_zero_of_no_sems (by decide) r.2⟩)
    (Cert.ProjQkvRefIdeal.Value.run m g)

/-- The kernel's result is the reference's. -/
theorem value : Cert.algebraic_ProjQkvIdeal_ProjQkvRefIdeal (hProjQkvIdeal := Cert.ProjQkvIdeal.Gen.facts)
    (hProjQkvRefIdeal := Cert.ProjQkvRefIdeal.Gen.facts) := by
  intro m g m' g' _ hargs
  refine ⟨_, Cert.ProjQkvIdeal.Value.run_blocks m g,
    (θ_run Cert.ProjQkvRefIdeal.defs _ _).mono (fun r h c => ?_) (Cert.ProjQkvRefIdeal.Value.run m' g')⟩
  obtain ⟨h0, h1⟩ := h c
  refine ⟨h0.trans ?_, h1⟩
  rw [(hargs c).1, (hargs c).2.1, (hargs c).2.2, out_array]
  funext I
  rw [eq_ix2 I]
  pointwise
  rfl

end Cert.ProjQkvProof

end
-- ==== Proof.Layer.ProjPool.lean ====
/- The input projection to the pooling mixer's columns: the kernel's result array, element by element. -/
module

public import proofs.«01_k».proof.Proof.Gen.ProjPoolIdeal.Value
public import proofs.«01_k».proof.Proof.Gen.ProjPoolRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.ProjPoolProof

open Idealize.ShloMosaic Idealize.ShloMosaic.TcCoe Idealize.SL.Sem
open Idealize.ShloMosaic.Pipeline (Dat)
open Cert.Layer

section Kernel
open Cert.ProjPoolIdeal Cert.ProjPoolIdeal.Gen
variable (m : (ℓ : Loc nD τ sig) → Buf (Elt Ideal) ℓ) (c : Dev nD)

/-- Which block each window holds at a point. -/
theorem idx : ∀ t : Fin cfg0.N, win0_0.index t = ![t.val, 0] ∧ win0_1.index t = ![0, 0]
    ∧ win0_2.index t = ![0, 0] ∧ win0_3.index t = ![t.val, 0] := by
  decide +kernel

/-- The normalised input at a row, from the arguments. -/
def xn (R : Fin 8448) (k : Fin 2048) : EReal :=
  normAt (fun k => m ((c : Thread nD τ).loc main_arg0) (ix2 R k)) (fun k => m ((c : Thread nD τ).loc main_arg1) (ix1 k)) k

theorem row_lt (n : ℕ) (hn : n < cfg0.N) (i : Fin 768) : n * 768 + i.val < 8448 := by
  have : n < 11 := hn
  omega

theorem x_block (t : Fin cfg0.N) (i : Fin 768) (k : Fin 2048) : iblk m c 0 t (ix2 i k)
    = m ((c : Thread nD τ).loc main_arg0) (ix2 ⟨t.val * 768 + i.val, row_lt t.val t.isLt i⟩ k) := by
  blk_simp [iblk, idx t]
  entry_read
  blk_ext [idx t]

theorem g_block (t : Fin cfg0.N) (k : Fin 2048) : iblk m c 1 t (ix2 0 k) = m ((c : Thread nD τ).loc main_arg1) (ix1 k) := by
  blk_simp [iblk, idx t]
  entry_read
  pointwise
  blk_ext [idx t]

theorem w_block (t : Fin cfg0.N) (k : Fin 2048) (j : Fin 512) : iblk m c 2 t (ix2 k j)
    = m ((c : Thread nD τ).loc main_arg2) (ix2 k ⟨2304 + j.val, by omega⟩) := by
  blk_simp [iblk, idx t]
  entry_read
  pointwise
  blk_ext [idx t]

/-- What the scratch is given at the first point of a row of blocks. -/
theorem fresh (t : Fin cfg0.N) (i : Fin 768) (k : Fin 2048) :
    k0_pay1 (iblk m c 0 t) (iblk m c 1 t) (ix2 i k) = xn m c ⟨t.val * 768 + i.val, row_lt t.val t.isLt i⟩ k := by
  pointwise [k0_pay1]
  simp only [x_block, g_block]
  rfl

/-- What a point writes: the product of the normalised rows with the columns. -/
theorem out_point (t : Fin cfg0.N) :
    outsAt0 m c t = k0_pay2 (k0_pay1 (iblk m c 0 t) (iblk m c 1 t)) (iblk m c 2 t) := by
  unfold outsAt0
  frame_out

/-- The result at row `R` and column `j`, from the arguments. -/
def val (R : Fin 8448) (j : Fin 512) : EReal :=
  projAt (fun k => m ((c : Thread nD τ).loc main_arg0) (ix2 R k)) (fun k => m ((c : Thread nD τ).loc main_arg1) (ix1 k))
    (fun k => m ((c : Thread nD τ).loc main_arg2) (ix2 k ⟨2304 + j.val, by omega⟩))

/-- What a point writes, at an element. -/
theorem out_at (t : Fin cfg0.N) (i : Fin 768) (j : Fin 512) : (outsAt0 m c t) (ix2 i j)
    = val m c ⟨t.val * 768 + i.val, row_lt t.val t.isLt i⟩ j := by
  rw [out_point]
  pointwise [k0_pay2]
  exact Finset.sum_congr rfl fun k _ => congrArg₂ (· * ·) (fresh m c t i k) (w_block m c t k j)

/-- The kernel's result array. -/
theorem out_array : (dats m 0 c).arrAt 3 cfg0.N = fun I : S8448x512.Idx => val m c (I 0) (I 1) := by
  refine (dats m 0 c).arrAt_eq_of_covers 3 _ (by decide +kernel) fun t hf y => ?_
  blk_simp
  rw [after0_3]
  refine ((congrArg (outsAt0 m c t) (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_ProjPoolRefIdeal (hProjPoolRefIdeal := Cert.ProjPoolRefIdeal.Gen.facts) := fun m g _ =>
  (θ_run Cert.ProjPoolRefIdeal.defs _ _).mono (fun r h => ⟨fun c => (h c).2, sem_eq_zero_of_no_sems (by decide) r.2⟩)
    (Cert.ProjPoolRefIdeal.Value.run m g)

/-- The kernel's result is the reference's. -/
theorem value : Cert.algebraic_ProjPoolIdeal_ProjPoolRefIdeal (hProjPoolIdeal := Cert.ProjPoolIdeal.Gen.facts)
    (hProjPoolRefIdeal := Cert.ProjPoolRefIdeal.Gen.facts) := by
  intro m g m' g' _ hargs
  refine ⟨_, Cert.ProjPoolIdeal.Value.run_blocks m g,
    (θ_run Cert.ProjPoolRefIdeal.defs _ _).mono (fun r h c => ?_) (Cert.ProjPoolRefIdeal.Value.run m' g')⟩
  obtain ⟨h0, h1⟩ := h c
  refine ⟨h0.trans ?_, h1⟩
  rw [(hargs c).1, (hargs c).2.1, (hargs c).2.2, out_array]
  funext I
  rw [eq_ix2 I]
  pointwise
  rfl

end Cert.ProjPoolProof

end
-- ==== Proof.Layer.ProjRwkv.lean ====
/- The input projection to the recurrent mixer's columns: the kernel's result array, element by element. -/
module

public import proofs.«01_k».proof.Proof.Gen.ProjRwkvIdeal.Value
public import proofs.«01_k».proof.Proof.Gen.ProjRwkvRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.ProjRwkvProof

open Idealize.ShloMosaic Idealize.ShloMosaic.TcCoe Idealize.SL.Sem
open Idealize.ShloMosaic.Pipeline (Dat)
open Cert.Layer

section Kernel
open Cert.ProjRwkvIdeal Cert.ProjRwkvIdeal.Gen
variable (m : (ℓ : Loc nD τ sig) → Buf (Elt Ideal) ℓ) (c : Dev nD)

/-- Which block each window holds at a point. -/
theorem idx : ∀ t : Fin cfg0.N, win0_0.index t = ![t.val / 2, 0] ∧ win0_1.index t = ![0, 0]
    ∧ win0_2.index t = ![0, t.val % 2] ∧ win0_3.index t = ![t.val / 2, t.val % 2] := by
  decide +kernel

/-- The normalised input at a row, from the arguments. -/
def xn (R : Fin 8448) (k : Fin 2048) : EReal :=
  normAt (fun k => m ((c : Thread nD τ).loc main_arg0) (ix2 R k)) (fun k => m ((c : Thread nD τ).loc main_arg1) (ix1 k)) k

theorem row_lt (n : ℕ) (hn : n < cfg0.N) (i : Fin 768) : n / 2 * 768 + i.val < 8448 := by
  have : n < 22 := hn
  omega

theorem x_block (t : Fin cfg0.N) (i : Fin 768) (k : Fin 2048) : iblk m c 0 t (ix2 i k)
    = m ((c : Thread nD τ).loc main_arg0) (ix2 ⟨t.val / 2 * 768 + i.val, row_lt t.val t.isLt i⟩ k) := by
  blk_simp [iblk, idx t]
  entry_read
  blk_ext [idx t]

theorem g_block (t : Fin cfg0.N) (k : Fin 2048) : iblk m c 1 t (ix2 0 k) = m ((c : Thread nD τ).loc main_arg1) (ix1 k) := by
  blk_simp [iblk, idx t]
  entry_read
  pointwise
  blk_ext [idx t]

theorem w_block (t : Fin cfg0.N) (k : Fin 2048) (j : Fin 1280) : iblk m c 2 t (ix2 k j)
    = m ((c : Thread nD τ).loc main_arg2) (ix2 k ⟨2816 + (t.val % 2 * 1280 + j.val), by omega⟩) := by
  blk_simp [iblk, idx t]
  entry_read
  pointwise
  blk_ext [idx t]

/-- What the scratch is given at the first point of a row of blocks. -/
theorem fresh (t : Fin cfg0.N) (i : Fin 768) (k : Fin 2048) :
    k0_pay1 (iblk m c 0 t) (iblk m c 1 t) (ix2 i k) = xn m c ⟨t.val / 2 * 768 + i.val, row_lt t.val t.isLt i⟩ k := by
  pointwise [k0_pay1]
  simp only [x_block, g_block]
  rfl

/-- The scratch holds the normalised rows of the point's row of blocks. -/
theorem held (t : Fin cfg0.N) (i : Fin 768) (k : Fin 2048) :
    (outsAt0 m c t.val t.isLt).2 (ix2 i k) = xn m c ⟨t.val / 2 * 768 + i.val, row_lt t.val t.isLt i⟩ k := by
  refine carried 2 cfg0.N (by decide) (fun n h => (outsAt0 m c n h).2)
    (fun q v => ∀ h : q * 768 + i.val < 8448, v (ix2 i k) = xn m c ⟨q * 768 + i.val, h⟩ k)
    (fun n h e hR => ?_) (fun n h e => ?_) t.val t.isLt _
  · refine Eq.trans ?_ (fresh m c ⟨n, h⟩ i k)
    rw [outsAt0_A m c ⟨n, h⟩ e]
    frame_out
  · show (outsAt0 m c n h).2 = _
    rw [outsAt0_B m c ⟨n, h⟩ e]
    rfl

/-- What a point writes: the product of the scratch with the point's columns. -/
theorem out_point (t : Fin cfg0.N) : (outsAt0 m c t.val t.isLt).1 = k0_pay2 (outsAt0 m c t.val t.isLt).2 (iblk m c 2 t) := by
  by_cases h : t.val % 2 = 0
  · rw [outsAt0_A m c t h]
    frame_out
  · rw [outsAt0_B m c t h]
    frame_out
    simp only [read_unread_whole]
    rfl

/-- The result at row `R` and column `j`, from the arguments. -/
def val (R : Fin 8448) (j : Fin 2560) : EReal :=
  projAt (fun k => m ((c : Thread nD τ).loc main_arg0) (ix2 R k)) (fun k => m ((c : Thread nD τ).loc main_arg1) (ix1 k))
    (fun k => m ((c : Thread nD τ).loc main_arg2) (ix2 k ⟨2816 + j.val, by omega⟩))

/-- What a point writes, at an element. -/
theorem out_at (t : Fin cfg0.N) (i : Fin 768) (j : Fin 1280) : (outsAt0 m c t.val t.isLt).1 (ix2 i j)
    = val m c ⟨t.val / 2 * 768 + i.val, row_lt t.val t.isLt i⟩ ⟨t.val % 2 * 1280 + j.val, by omega⟩ := by
  rw [out_point]
  pointwise [k0_pay2]
  exact Finset.sum_congr rfl fun k _ => congrArg₂ (· * ·) (held m c t i k) (w_block m c t k j)

/-- The kernel's result array. -/
theorem out_array : (dats m 0 c).arrAt 3 cfg0.N = fun I : S8448x2560.Idx => val m c (I 0) (I 1) := by
  refine (dats m 0 c).arrAt_eq_of_covers 3 _ (by decide +kernel) fun t hf y => ?_
  blk_simp
  rw [after0_3]
  refine ((congrArg (outsAt0 m c t.val t.isLt).1 (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_ProjRwkvRefIdeal (hProjRwkvRefIdeal := Cert.ProjRwkvRefIdeal.Gen.facts) := fun m g _ =>
  (θ_run Cert.ProjRwkvRefIdeal.defs _ _).mono (fun r h => ⟨fun c => (h c).2, sem_eq_zero_of_no_sems (by decide) r.2⟩)
    (Cert.ProjRwkvRefIdeal.Value.run m g)

/-- The kernel's result is the reference's. -/
theorem value : Cert.algebraic_ProjRwkvIdeal_ProjRwkvRefIdeal (hProjRwkvIdeal := Cert.ProjRwkvIdeal.Gen.facts)
    (hProjRwkvRefIdeal := Cert.ProjRwkvRefIdeal.Gen.facts) := by
  intro m g m' g' _ hargs
  refine ⟨_, Cert.ProjRwkvIdeal.Value.run_blocks m g,
    (θ_run Cert.ProjRwkvRefIdeal.defs _ _).mono (fun r h c => ?_) (Cert.ProjRwkvRefIdeal.Value.run m' g')⟩
  obtain ⟨h0, h1⟩ := h c
  refine ⟨h0.trans ?_, h1⟩
  rw [(hargs c).1, (hargs c).2.1, (hargs c).2.2, out_array]
  funext I
  rw [eq_ix2 I]
  pointwise
  rfl

end Cert.ProjRwkvProof

end
-- ==== Proof.Layer.ProjGate.lean ====
/- The input projection to the gates: the kernel's result array, element by element. -/
module

public import proofs.«01_k».proof.Proof.Gen.ProjGateIdeal.Value
public import proofs.«01_k».proof.Proof.Gen.ProjGateRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.ProjGateProof

open Idealize.ShloMosaic Idealize.ShloMosaic.TcCoe Idealize.SL.Sem
open Idealize.ShloMosaic.Pipeline (Dat)
open Cert.Layer

section Kernel
open Cert.ProjGateIdeal Cert.ProjGateIdeal.Gen
variable (m : (ℓ : Loc nD τ sig) → Buf (Elt Ideal) ℓ) (c : Dev nD)

/-- Which block each window holds at a point. -/
theorem idx : ∀ t : Fin cfg0.N, win0_0.index t = ![t.val / 8, 0] ∧ win0_1.index t = ![0, 0]
    ∧ win0_2.index t = ![0, t.val % 8] ∧ win0_3.index t = ![t.val / 8, t.val % 8] := by
  decide +kernel

/-- The normalised input at a row, from the arguments. -/
def xn (R : Fin 8448) (k : Fin 2048) : EReal :=
  normAt (fun k => m ((c : Thread nD τ).loc main_arg0) (ix2 R k)) (fun k => m ((c : Thread nD τ).loc main_arg1) (ix1 k)) k

theorem row_lt (n : ℕ) (hn : n < cfg0.N) (i : Fin 768) : n / 8 * 768 + i.val < 8448 := by
  have : n < 88 := hn
  omega

theorem x_block (t : Fin cfg0.N) (i : Fin 768) (k : Fin 2048) : iblk m c 0 t (ix2 i k)
    = m ((c : Thread nD τ).loc main_arg0) (ix2 ⟨t.val / 8 * 768 + i.val, row_lt t.val t.isLt i⟩ k) := by
  blk_simp [iblk, idx t]
  entry_read
  blk_ext [idx t]

theorem g_block (t : Fin cfg0.N) (k : Fin 2048) : iblk m c 1 t (ix2 0 k) = m ((c : Thread nD τ).loc main_arg1) (ix1 k) := by
  blk_simp [iblk, idx t]
  entry_read
  pointwise
  blk_ext [idx t]

theorem w_block (t : Fin cfg0.N) (k : Fin 2048) (j : Fin 768) : iblk m c 2 t (ix2 k j)
    = m ((c : Thread nD τ).loc main_arg2) (ix2 k ⟨5376 + (t.val % 8 * 768 + j.val), by omega⟩) := by
  blk_simp [iblk, idx t]
  entry_read
  pointwise
  blk_ext [idx t]

/-- What the scratch is given at the first point of a row of blocks. -/
theorem fresh (t : Fin cfg0.N) (i : Fin 768) (k : Fin 2048) :
    k0_pay1 (iblk m c 0 t) (iblk m c 1 t) (ix2 i k) = xn m c ⟨t.val / 8 * 768 + i.val, row_lt t.val t.isLt i⟩ k := by
  pointwise [k0_pay1]
  simp only [x_block, g_block]
  rfl

/-- The scratch holds the normalised rows of the point's row of blocks. -/
theorem held (t : Fin cfg0.N) (i : Fin 768) (k : Fin 2048) :
    (outsAt0 m c t.val t.isLt).2 (ix2 i k) = xn m c ⟨t.val / 8 * 768 + i.val, row_lt t.val t.isLt i⟩ k := by
  refine carried 8 cfg0.N (by decide) (fun n h => (outsAt0 m c n h).2)
    (fun q v => ∀ h : q * 768 + i.val < 8448, v (ix2 i k) = xn m c ⟨q * 768 + i.val, h⟩ k)
    (fun n h e hR => ?_) (fun n h e => ?_) t.val t.isLt _
  · refine Eq.trans ?_ (fresh m c ⟨n, h⟩ i k)
    rw [outsAt0_A m c ⟨n, h⟩ e]
    frame_out
  · show (outsAt0 m c n h).2 = _
    rw [outsAt0_B m c ⟨n, h⟩ e]
    rfl

/-- What a point writes: the product of the scratch with the point's columns. -/
theorem out_point (t : Fin cfg0.N) : (outsAt0 m c t.val t.isLt).1 = k0_pay2 (outsAt0 m c t.val t.isLt).2 (iblk m c 2 t) := by
  by_cases h : t.val % 8 = 0
  · rw [outsAt0_A m c t h]
    frame_out
  · rw [outsAt0_B m c t h]
    frame_out
    simp only [read_unread_whole]
    rfl

/-- The result at row `R` and column `j`, from the arguments. -/
def val (R : Fin 8448) (j : Fin 6144) : EReal :=
  projAt (fun k => m ((c : Thread nD τ).loc main_arg0) (ix2 R k)) (fun k => m ((c : Thread nD τ).loc main_arg1) (ix1 k))
    (fun k => m ((c : Thread nD τ).loc main_arg2) (ix2 k ⟨5376 + j.val, by omega⟩))

/-- What a point writes, at an element. -/
theorem out_at (t : Fin cfg0.N) (i : Fin 768) (j : Fin 768) : (outsAt0 m c t.val t.isLt).1 (ix2 i j)
    = val m c ⟨t.val / 8 * 768 + i.val, row_lt t.val t.isLt i⟩ ⟨t.val % 8 * 768 + j.val, by omega⟩ := by
  rw [out_point]
  pointwise [k0_pay2]
  exact Finset.sum_congr rfl fun k _ => congrArg₂ (· * ·) (held m c t i k) (w_block m c t k j)

/-- The kernel's result array. -/
theorem out_array : (dats m 0 c).arrAt 3 cfg0.N = fun I : S8448x6144.Idx => val m c (I 0) (I 1) := by
  refine (dats m 0 c).arrAt_eq_of_covers 3 _ (by decide +kernel) fun t hf y => ?_
  blk_simp
  rw [after0_3]
  refine ((congrArg (outsAt0 m c t.val t.isLt).1 (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_ProjGateRefIdeal (hProjGateRefIdeal := Cert.ProjGateRefIdeal.Gen.facts) := fun m g _ =>
  (θ_run Cert.ProjGateRefIdeal.defs _ _).mono (fun r h => ⟨fun c => (h c).2, sem_eq_zero_of_no_sems (by decide) r.2⟩)
    (Cert.ProjGateRefIdeal.Value.run m g)

/-- The kernel's result is the reference's. -/
theorem value : Cert.algebraic_ProjGateIdeal_ProjGateRefIdeal (hProjGateIdeal := Cert.ProjGateIdeal.Gen.facts)
    (hProjGateRefIdeal := Cert.ProjGateRefIdeal.Gen.facts) := by
  intro m g m' g' _ hargs
  refine ⟨_, Cert.ProjGateIdeal.Value.run_blocks m g,
    (θ_run Cert.ProjGateRefIdeal.defs _ _).mono (fun r h c => ?_) (Cert.ProjGateRefIdeal.Value.run m' g')⟩
  obtain ⟨h0, h1⟩ := h c
  refine ⟨h0.trans ?_, h1⟩
  rw [(hargs c).1, (hargs c).2.1, (hargs c).2.2, out_array]
  funext I
  rw [eq_ix2 I]
  pointwise
  rfl

end Cert.ProjGateProof

end
-- ==== Proof.Layer.Ple.lean ====
/- The per-layer embedding step: the kernel's result array, element by element. -/
module

public import proofs.«01_k».proof.Proof.Gen.PleIdeal.Value
public import proofs.«01_k».proof.Proof.Gen.PleRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.PleProof

open Idealize.ShloMosaic Idealize.ShloMosaic.TcCoe Idealize.SL.Sem
open Idealize.ShloMosaic.Pipeline (Dat)
open Cert.Layer

section Kernel
open Cert.PleIdeal Cert.PleIdeal.Gen
variable (m : (ℓ : Loc nD τ sig) → Buf (Elt Ideal) ℓ) (c : Dev nD)

/-- Which block each window holds at a point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0] := by
  decide +kernel

theorem row_lt (n : ℕ) (hn : n < cfg0.N) (i : Fin 256) : n * 256 + i.val < 8448 := by
  have : n < 33 := hn
  omega

theorem x_block (t : Fin cfg0.N) (i : Fin 256) (k : Fin 2048) : iblk m c 0 t (ix2 i k)
    = m ((c : Thread nD τ).loc main_arg0) (ix2 ⟨t.val * 256 + i.val, row_lt t.val t.isLt i⟩ k) := by
  blk_simp [iblk, idx t]
  entry_read
  blk_ext [idx t]

theorem f_block (t : Fin cfg0.N) (i : Fin 256) (k : Fin 2048) : iblk m c 1 t (ix2 i k)
    = m ((c : Thread nD τ).loc main_arg1) (ix2 ⟨t.val * 256 + i.val, row_lt t.val t.isLt i⟩ k) := by
  blk_simp [iblk, idx t]
  entry_read
  blk_ext [idx t]

theorem p_block (t : Fin cfg0.N) (i : Fin 256) (k : Fin 256) : iblk m c 2 t (ix2 i k)
    = m ((c : Thread nD τ).loc main_arg2) (ix2 ⟨t.val * 256 + i.val, row_lt t.val t.isLt i⟩ k) := by
  blk_simp [iblk, idx t]
  entry_read
  pointwise
  blk_ext [idx t]

theorem g_block (t : Fin cfg0.N) (k : Fin 2048) : iblk m c 3 t (ix2 0 k) = m ((c : Thread nD τ).loc main_arg3) (ix1 k) := by
  blk_simp [iblk, idx t]
  entry_read
  pointwise
  blk_ext [idx t]

theorem wg_block (t : Fin cfg0.N) (k : Fin 2048) (j : Fin 2048) : iblk m c 4 t (ix2 k j) = m ((c : Thread nD τ).loc main_arg4) (ix2 k j) := by
  blk_simp [iblk, idx t]
  entry_read
  pointwise
  blk_ext [idx t]

theorem wp_block (t : Fin cfg0.N) (k : Fin 256) (j : Fin 2048) : iblk m c 5 t (ix2 k j) = m ((c : Thread nD τ).loc main_arg5) (ix2 k j) := by
  blk_simp [iblk, idx t]
  entry_read
  pointwise
  blk_ext [idx t]

/-- The residual stream at row `R` after the step, from the arguments. -/
def step (R : Fin 8448) (j : Fin 2048) : EReal :=
  pleAt (fun k => m ((c : Thread nD τ).loc main_arg0) (ix2 R k)) (fun k => m ((c : Thread nD τ).loc main_arg1) (ix2 R k)) (fun l => m ((c : Thread nD τ).loc main_arg2) (ix2 R l))
    (fun k => m ((c : Thread nD τ).loc main_arg3) (ix1 k)) (fun k j => m ((c : Thread nD τ).loc main_arg4) (ix2 k j)) (fun l j => m ((c : Thread nD τ).loc main_arg5) (ix2 l j)) j

/-- The body's step at an element. -/
theorem step_at (t : Fin cfg0.N) (i : Fin 256) (j : Fin 2048) : k0_pay1 (iblk m c 0 t) (iblk m c 1 t) (iblk m c 3 t) (iblk m c 4 t) (iblk m c 2 t) (iblk m c 5 t) (ix2 i j)
    = step m c ⟨t.val * 256 + i.val, row_lt t.val t.isLt i⟩ j := by
  pointwise [k0_pay1]
  simp only [x_block, f_block, p_block, g_block, wg_block, wp_block]
  rfl

/-- The result at row `R` and column `j`, from the arguments. -/
def val (R : Fin 8448) (j : Fin 2048) : EReal := step m c R j

/-- What a point writes, at an element. -/
theorem out_at (t : Fin cfg0.N) (i : Fin 256) (j : Fin 2048) : out0_7 (iblk m c 0 t) (iblk m c 1 t) (iblk m c 2 t) (iblk m c 3 t) (iblk m c 4 t) (iblk m c 5 t) (iblk m c 6 t) (ix2 i j)
    = val m c ⟨t.val * 256 + i.val, row_lt t.val t.isLt i⟩ j := by
  have e : out0_7 (iblk m c 0 t) (iblk m c 1 t) (iblk m c 2 t) (iblk m c 3 t) (iblk m c 4 t) (iblk m c 5 t) (iblk m c 6 t) = k0_pay1 (iblk m c 0 t) (iblk m c 1 t) (iblk m c 3 t) (iblk m c 4 t) (iblk m c 2 t) (iblk m c 5 t) := by frame_out
  rw [e]
  exact step_at m c t i j

/-- The kernel's result array. -/
theorem out_array : (dats m 0 c).arrAt 7 cfg0.N = fun I : S8448x2048.Idx => val m c (I 0) (I 1) := by
  refine (dats m 0 c).arrAt_eq_of_covers 7 _ (by decide +kernel) fun t hf y => ?_
  blk_simp
  rw [after0_7]
  refine ((congrArg (out0_7 (iblk m c 0 t) (iblk m c 1 t) (iblk m c 2 t) (iblk m c 3 t) (iblk m c 4 t) (iblk m c 5 t) (iblk m c 6 t)) (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_PleRefIdeal (hPleRefIdeal := Cert.PleRefIdeal.Gen.facts) := fun m g _ =>
  (θ_run Cert.PleRefIdeal.defs _ _).mono (fun r h => ⟨fun c => (h c).2, sem_eq_zero_of_no_sems (by decide) r.2⟩)
    (Cert.PleRefIdeal.Value.run m g)

/-- The kernel's result is the reference's. -/
theorem value : Cert.algebraic_PleIdeal_PleRefIdeal (hPleIdeal := Cert.PleIdeal.Gen.facts)
    (hPleRefIdeal := Cert.PleRefIdeal.Gen.facts) := by
  intro m g m' g' _ hargs
  refine ⟨_, Cert.PleIdeal.Value.run_blocks m g,
    (θ_run Cert.PleRefIdeal.defs _ _).mono (fun r h c => ?_) (Cert.PleRefIdeal.Value.run m' g')⟩
  obtain ⟨h0, h1⟩ := h c
  refine ⟨h0.trans ?_, h1⟩
  rw [(hargs c).1, (hargs c).2.1, (hargs c).2.2.1, (hargs c).2.2.2.1, (hargs c).2.2.2.2.1, (hargs c).2.2.2.2.2.1, out_array]
  refine ext2 fun i j => ?_
  pointwise
  simp only [sigmoid]
  rfl

end Cert.PleProof

end
-- ==== Proof.Layer.PleFinal.lean ====
/- The per-layer embedding step of the last layer, with the final normalisation: the kernel's result array, element by element. -/
module

public import proofs.«01_k».proof.Proof.Gen.PleFinalIdeal.Value
public import proofs.«01_k».proof.Proof.Gen.PleFinalRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.PleFinalProof

open Idealize.ShloMosaic Idealize.ShloMosaic.TcCoe Idealize.SL.Sem
open Idealize.ShloMosaic.Pipeline (Dat)
open Cert.Layer

section Kernel
open Cert.PleFinalIdeal Cert.PleFinalIdeal.Gen
variable (m : (ℓ : Loc nD τ sig) → Buf (Elt Ideal) ℓ) (c : Dev nD)

/-- Which block each window holds at a point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0] := by
  decide +kernel

theorem row_lt (n : ℕ) (hn : n < cfg0.N) (i : Fin 256) : n * 256 + i.val < 8448 := by
  have : n < 33 := hn
  omega

theorem x_block (t : Fin cfg0.N) (i : Fin 256) (k : Fin 2048) : iblk m c 0 t (ix2 i k)
    = m ((c : Thread nD τ).loc main_arg0) (ix2 ⟨t.val * 256 + i.val, row_lt t.val t.isLt i⟩ k) := by
  blk_simp [iblk, idx t]
  entry_read
  blk_ext [idx t]

theorem f_block (t : Fin cfg0.N) (i : Fin 256) (k : Fin 2048) : iblk m c 1 t (ix2 i k)
    = m ((c : Thread nD τ).loc main_arg1) (ix2 ⟨t.val * 256 + i.val, row_lt t.val t.isLt i⟩ k) := by
  blk_simp [iblk, idx t]
  entry_read
  blk_ext [idx t]

theorem p_block (t : Fin cfg0.N) (i : Fin 256) (k : Fin 256) : iblk m c 2 t (ix2 i k)
    = m ((c : Thread nD τ).loc main_arg2) (ix2 ⟨t.val * 256 + i.val, row_lt t.val t.isLt i⟩ k) := by
  blk_simp [iblk, idx t]
  entry_read
  pointwise
  blk_ext [idx t]

theorem g_block (t : Fin cfg0.N) (k : Fin 2048) : iblk m c 3 t (ix2 0 k) = m ((c : Thread nD τ).loc main_arg3) (ix1 k) := by
  blk_simp [iblk, idx t]
  entry_read
  pointwise
  blk_ext [idx t]

theorem wg_block (t : Fin cfg0.N) (k : Fin 2048) (j : Fin 2048) : iblk m c 4 t (ix2 k j) = m ((c : Thread nD τ).loc main_arg4) (ix2 k j) := by
  blk_simp [iblk, idx t]
  entry_read
  pointwise
  blk_ext [idx t]

theorem wp_block (t : Fin cfg0.N) (k : Fin 256) (j : Fin 2048) : iblk m c 5 t (ix2 k j) = m ((c : Thread nD τ).loc main_arg5) (ix2 k j) := by
  blk_simp [iblk, idx t]
  entry_read
  pointwise
  blk_ext [idx t]

theorem gf_block (t : Fin cfg0.N) (k : Fin 2048) : iblk m c 6 t (ix2 0 k) = m ((c : Thread nD τ).loc main_arg6) (ix1 k) := by
  blk_simp [iblk, idx t]
  entry_read
  pointwise
  blk_ext [idx t]

/-- The residual stream at row `R` after the step, from the arguments. -/
def step (R : Fin 8448) (j : Fin 2048) : EReal :=
  pleAt (fun k => m ((c : Thread nD τ).loc main_arg0) (ix2 R k)) (fun k => m ((c : Thread nD τ).loc main_arg1) (ix2 R k)) (fun l => m ((c : Thread nD τ).loc main_arg2) (ix2 R l))
    (fun k => m ((c : Thread nD τ).loc main_arg3) (ix1 k)) (fun k j => m ((c : Thread nD τ).loc main_arg4) (ix2 k j)) (fun l j => m ((c : Thread nD τ).loc main_arg5) (ix2 l j)) j

/-- The body's normalised step at an element, without the last gain. -/
theorem step_at (t : Fin cfg0.N) (i : Fin 256) (j : Fin 2048) : k0_pay2 (iblk m c 0 t) (iblk m c 1 t) (iblk m c 3 t) (iblk m c 4 t) (iblk m c 2 t) (iblk m c 5 t) (ix2 i j)
    = rms (step m c ⟨t.val * 256 + i.val, row_lt t.val t.isLt i⟩) j := by
  pointwise [k0_pay2]
  simp only [x_block, f_block, p_block, g_block, wg_block, wp_block]
  rfl

/-- The result at row `R` and column `j`, from the arguments. -/
def val (R : Fin 8448) (j : Fin 2048) : EReal := normAt (step m c R) (fun k => m ((c : Thread nD τ).loc main_arg6) (ix1 k)) j

/-- What a point writes, at an element. -/
theorem out_at (t : Fin cfg0.N) (i : Fin 256) (j : Fin 2048) : out0_7 (iblk m c 0 t) (iblk m c 1 t) (iblk m c 2 t) (iblk m c 3 t) (iblk m c 4 t) (iblk m c 5 t) (iblk m c 6 t) (ix2 i j)
    = val m c ⟨t.val * 256 + i.val, row_lt t.val t.isLt i⟩ j := by
  have e : out0_7 (iblk m c 0 t) (iblk m c 1 t) (iblk m c 2 t) (iblk m c 3 t) (iblk m c 4 t) (iblk m c 5 t) (iblk m c 6 t) = k0_pay1 (k0_pay2 (iblk m c 0 t) (iblk m c 1 t) (iblk m c 3 t) (iblk m c 4 t) (iblk m c 2 t) (iblk m c 5 t)) (iblk m c 6 t) := by frame_out
  rw [e]
  pointwise [k0_pay1]
  simp only [step_at, gf_block]
  rfl

/-- The kernel's result array. -/
theorem out_array : (dats m 0 c).arrAt 7 cfg0.N = fun I : S8448x2048.Idx => val m c (I 0) (I 1) := by
  refine (dats m 0 c).arrAt_eq_of_covers 7 _ (by decide +kernel) fun t hf y => ?_
  blk_simp
  rw [after0_7]
  refine ((congrArg (out0_7 (iblk m c 0 t) (iblk m c 1 t) (iblk m c 2 t) (iblk m c 3 t) (iblk m c 4 t) (iblk m c 5 t) (iblk m c 6 t)) (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_PleFinalRefIdeal (hPleFinalRefIdeal := Cert.PleFinalRefIdeal.Gen.facts) := fun m g _ =>
  (θ_run Cert.PleFinalRefIdeal.defs _ _).mono (fun r h => ⟨fun c => (h c).2, sem_eq_zero_of_no_sems (by decide) r.2⟩)
    (Cert.PleFinalRefIdeal.Value.run m g)

/-- The kernel's result is the reference's. -/
theorem value : Cert.algebraic_PleFinalIdeal_PleFinalRefIdeal (hPleFinalIdeal := Cert.PleFinalIdeal.Gen.facts)
    (hPleFinalRefIdeal := Cert.PleFinalRefIdeal.Gen.facts) := by
  intro m g m' g' _ hargs
  refine ⟨_, Cert.PleFinalIdeal.Value.run_blocks m g,
    (θ_run Cert.PleFinalRefIdeal.defs _ _).mono (fun r h c => ?_) (Cert.PleFinalRefIdeal.Value.run m' g')⟩
  obtain ⟨h0, h1⟩ := h c
  refine ⟨h0.trans ?_, h1⟩
  unfold Cert.PleFinalRefIdeal.Value.res_main_v36
  rw [(hargs c).1, (hargs c).2.1, (hargs c).2.2.1, (hargs c).2.2.2.1, (hargs c).2.2.2.2.1, (hargs c).2.2.2.2.2.1, (hargs c).2.2.2.2.2.2, out_array]
  refine ext2 fun i j => ?_
  pointwise
  simp only [sigmoid]
  rfl

end Cert.PleFinalProof

end
-- ==== Proof.Layer.OutProj.lean ====
/- The output projection: the kernel's result array, element by element. -/
module

public import proofs.«01_k».proof.Proof.Gen.OutProjIdeal.Value
public import proofs.«01_k».proof.Proof.Gen.OutProjRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.OutProjProof

open Idealize.ShloMosaic Idealize.ShloMosaic.TcCoe Idealize.SL.Sem
open Idealize.ShloMosaic.Pipeline (Dat)
open Cert.Layer

section Kernel
open Cert.OutProjIdeal Cert.OutProjIdeal.Gen
variable (m : (ℓ : Loc nD τ sig) → Buf (Elt Ideal) ℓ) (c : Dev nD)

/-- Which block each window holds at a point. -/
theorem idx : ∀ t : Fin cfg0.N, win0_0.index t = ![t.val, 0]
    ∧ win0_1.index t = ![t.val, 0]
    ∧ win0_2.index t = ![0, 0]
    ∧ win0_3.index t = ![t.val, 0] := by
  decide +kernel

theorem row_lt (n : ℕ) (hn : n < cfg0.N) (i : Fin 384) : n * 384 + i.val < 8448 := by
  have : n < 22 := hn
  omega

theorem x_block (t : Fin cfg0.N) (i : Fin 384) (k : Fin 2048) : iblk m c 0 t (ix2 i k)
    = m ((c : Thread nD τ).loc main_arg0) (ix2 ⟨t.val * 384 + i.val, row_lt t.val t.isLt i⟩ k) := by
  blk_simp [iblk, idx t]
  entry_read
  blk_ext [idx t]

theorem a_block (t : Fin cfg0.N) (i : Fin 384) (k : Fin 2048) : iblk m c 1 t (ix2 i k)
    = m ((c : Thread nD τ).loc main_arg1) (ix2 ⟨t.val * 384 + i.val, row_lt t.val t.isLt i⟩ k) := by
  blk_simp [iblk, idx t]
  entry_read
  blk_ext [idx t]

theorem w_block (t : Fin cfg0.N) (k : Fin 2048) (j : Fin 2048) : iblk m c 2 t (ix2 k j) = m ((c : Thread nD τ).loc main_arg2) (ix2 k j) := by
  blk_simp [iblk, idx t]
  entry_read
  pointwise
  blk_ext [idx t]

/-- The result at row `R` and column `j`, from the arguments: the residual stream plus the row's product with the column. -/
def val (R : Fin 8448) (j : Fin 2048) : EReal :=
  resAt (m ((c : Thread nD τ).loc main_arg0) (ix2 R j)) (fun k => m ((c : Thread nD τ).loc main_arg1) (ix2 R k))
    (fun k => m ((c : Thread nD τ).loc main_arg2) (ix2 k j))

/-- What a point writes, at an element. -/
theorem out_at (t : Fin cfg0.N) (i : Fin 384) (j : Fin 2048) : out0_3 (iblk m c 0 t) (iblk m c 1 t) (iblk m c 2 t) (ix2 i j)
    = val m c ⟨t.val * 384 + i.val, row_lt t.val t.isLt i⟩ j := by
  have e : out0_3 (iblk m c 0 t) (iblk m c 1 t) (iblk m c 2 t) = k0_pay1 (iblk m c 0 t) (iblk m c 1 t) (iblk m c 2 t) := by frame_out
  rw [e]
  pointwise [k0_pay1]
  simp only [x_block, a_block, w_block]
  rfl

/-- The kernel's result array. -/
theorem out_array : (dats m 0 c).arrAt 3 cfg0.N = fun I : S8448x2048.Idx => val m c (I 0) (I 1) := by
  refine (dats m 0 c).arrAt_eq_of_covers 3 _ (by decide +kernel) fun t hf y => ?_
  blk_simp
  rw [after0_3]
  refine ((congrArg (out0_3 (iblk m c 0 t) (iblk m c 1 t) (iblk m c 2 t)) (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_OutProjRefIdeal (hOutProjRefIdeal := Cert.OutProjRefIdeal.Gen.facts) := fun m g _ =>
  (θ_run Cert.OutProjRefIdeal.defs _ _).mono (fun r h => ⟨fun c => (h c).2, sem_eq_zero_of_no_sems (by decide) r.2⟩)
    (Cert.OutProjRefIdeal.Value.run m g)

/-- The kernel's result is the reference's. -/
theorem value : Cert.algebraic_OutProjIdeal_OutProjRefIdeal (hOutProjIdeal := Cert.OutProjIdeal.Gen.facts)
    (hOutProjRefIdeal := Cert.OutProjRefIdeal.Gen.facts) := by
  intro m g m' g' _ hargs
  refine ⟨_, Cert.OutProjIdeal.Value.run_blocks m g,
    (θ_run Cert.OutProjRefIdeal.defs _ _).mono (fun r h c => ?_) (Cert.OutProjRefIdeal.Value.run m' g')⟩
  obtain ⟨h0, h1⟩ := h c
  refine ⟨h0.trans ?_, h1⟩
  rw [(hargs c).1, (hargs c).2.1, (hargs c).2.2, out_array]
  refine ext2 fun i j => ?_
  pointwise
  rfl

end Cert.OutProjProof

end
-- ==== Proof.Layer.Mix.lean ====
/- The gated mix of the branches: the kernel's result array, element by element. -/
module

public import proofs.«01_k».proof.Proof.Gen.MixIdeal.Value
public import proofs.«01_k».proof.Proof.Gen.MixRefIdeal.Run
public import proofs.«01_k».proof.Defs
public import proofs.«01_k».proof.Proof.Layer.Norm
public import Idealize.ShloMosaic.Adequacy
public import Idealize.ShloMosaic.Init
public import Idealize.ShloMosaic.Lib.Pipeline.ValueKit
public import Idealize.ShloMosaic.Lib.Pipeline.ReadBack

@[expose] public section

noncomputable section

namespace Cert.MixProof

open Idealize.ShloMosaic Idealize.ShloMosaic.TcCoe Idealize.SL.Sem
open Idealize.ShloMosaic.Pipeline (Dat)
open Cert.Layer

/-- The recurrent branch's entry: scaled, shifted, with its bonus, gated. -/
def branch (y w b u g : EReal) : EReal := (y * w + b + u) * g

/-- Entry `j` of the mix of one row: each branch's product with its column, times its gate, added up; the three gates are the
    logistic function of the row `z`, side by side. -/
def gated (z : Fin 6144 → EReal) (a : Fin 256 → EReal) (p : Fin 512 → EReal) (r : Fin 768 → EReal)
    (wa : Fin 256 → EReal) (wp : Fin 512 → EReal) (wr : Fin 768 → EReal) (j : Fin 2048) : EReal :=
  Ideal.logistic (z ⟨j.val, by omega⟩) * (∑ k, a k * wa k) + Ideal.logistic (z ⟨2048 + j.val, by omega⟩) * (∑ k, p k * wp k)
    + Ideal.logistic (z ⟨4096 + j.val, by omega⟩) * (∑ k, r k * wr k)

section Kernel
open Cert.MixIdeal Cert.MixIdeal.Gen
variable (m : (ℓ : Loc nD τ sig) → Buf (Elt Ideal) ℓ) (c : Dev nD)

/-- Which block each window holds at a point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0] := by
  decide +kernel

theorem row_lt (n : ℕ) (hn : n < cfg0.N) (i : Fin 384) : n * 384 + i.val < 8448 := by
  have : n < 22 := hn
  omega

theorem att_block (t : Fin cfg0.N) (i : Fin 384) (k : Fin 256) : iblk m c 0 t (ix2 i k)
    = m ((c : Thread nD τ).loc main_arg0) (ix2 ⟨t.val * 384 + i.val, row_lt t.val t.isLt i⟩ k) := by
  blk_simp [iblk, idx t]
  entry_read
  blk_ext [idx t]

theorem pool_block (t : Fin cfg0.N) (i : Fin 384) (k : Fin 512) : iblk m c 1 t (ix2 i k)
    = m ((c : Thread nD τ).loc main_arg1) (ix2 ⟨t.val * 384 + i.val, row_lt t.val t.isLt i⟩ k) := by
  blk_simp [iblk, idx t]
  entry_read
  blk_ext [idx t]

theorem yn_block (t : Fin cfg0.N) (i : Fin 384) (k : Fin 768) : iblk m c 2 t (ix2 i k)
    = m ((c : Thread nD τ).loc main_arg2) (ix2 ⟨t.val * 384 + i.val, row_lt t.val t.isLt i⟩ k) := by
  blk_simp [iblk, idx t]
  entry_read
  blk_ext [idx t]

theorem bonus_block (t : Fin cfg0.N) (i : Fin 384) (k : Fin 768) : iblk m c 3 t (ix2 i k)
    = m ((c : Thread nD τ).loc main_arg3) (ix2 ⟨t.val * 384 + i.val, row_lt t.val t.isLt i⟩ k) := by
  blk_simp [iblk, idx t]
  entry_read
  blk_ext [idx t]

theorem g_block (t : Fin cfg0.N) (i : Fin 384) (k : Fin 768) : iblk m c 4 t (ix2 i k)
    = m ((c : Thread nD τ).loc main_arg4) (ix2 ⟨t.val * 384 + i.val, row_lt t.val t.isLt i⟩ k) := by
  blk_simp [iblk, idx t]
  entry_read
  blk_ext [idx t]

theorem gate_block (t : Fin cfg0.N) (i : Fin 384) (k : Fin 6144) : iblk m c 5 t (ix2 i k)
    = m ((c : Thread nD τ).loc main_arg5) (ix2 ⟨t.val * 384 + i.val, row_lt t.val t.isLt i⟩ k) := by
  blk_simp [iblk, idx t]
  entry_read
  blk_ext [idx t]

theorem lw_block (t : Fin cfg0.N) (k : Fin 768) : iblk m c 6 t (ix2 0 k) = m ((c : Thread nD τ).loc main_arg6) (ix1 k) := by
  blk_simp [iblk, idx t]
  entry_read
  pointwise
  blk_ext [idx t]

theorem lb_block (t : Fin cfg0.N) (k : Fin 768) : iblk m c 7 t (ix2 0 k) = m ((c : Thread nD τ).loc main_arg7) (ix1 k) := by
  blk_simp [iblk, idx t]
  entry_read
  pointwise
  blk_ext [idx t]

theorem wa_block (t : Fin cfg0.N) (k : Fin 256) (j : Fin 2048) : iblk m c 8 t (ix2 k j) = m ((c : Thread nD τ).loc main_arg8) (ix2 k j) := by
  blk_simp [iblk, idx t]
  entry_read
  pointwise
  blk_ext [idx t]

theorem wp_block (t : Fin cfg0.N) (k : Fin 512) (j : Fin 2048) : iblk m c 9 t (ix2 k j) = m ((c : Thread nD τ).loc main_arg9) (ix2 k j) := by
  blk_simp [iblk, idx t]
  entry_read
  pointwise
  blk_ext [idx t]

theorem wr_block (t : Fin cfg0.N) (k : Fin 768) (j : Fin 2048) : iblk m c 10 t (ix2 k j) = m ((c : Thread nD τ).loc main_arg10) (ix2 k j) := by
  blk_simp [iblk, idx t]
  entry_read
  pointwise
  blk_ext [idx t]

/-- The result at row `R` and column `j`, from the arguments: each branch's product times its gate, added up. -/
def val (R : Fin 8448) (j : Fin 2048) : EReal :=
  gated (fun j => m ((c : Thread nD τ).loc main_arg5) (ix2 R j)) (fun k => m ((c : Thread nD τ).loc main_arg0) (ix2 R k)) (fun k => m ((c : Thread nD τ).loc main_arg1) (ix2 R k))
    (fun k => branch (m ((c : Thread nD τ).loc main_arg2) (ix2 R k)) (m ((c : Thread nD τ).loc main_arg6) (ix1 k)) (m ((c : Thread nD τ).loc main_arg7) (ix1 k))
      (m ((c : Thread nD τ).loc main_arg3) (ix2 R k)) (m ((c : Thread nD τ).loc main_arg4) (ix2 R k)))
    (fun k => m ((c : Thread nD τ).loc main_arg8) (ix2 k j)) (fun k => m ((c : Thread nD τ).loc main_arg9) (ix2 k j))
    (fun k => m ((c : Thread nD τ).loc main_arg10) (ix2 k j)) j

/-- What a point writes, at an element. -/
theorem out_at (t : Fin cfg0.N) (i : Fin 384) (j : Fin 2048) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
    = val m c ⟨t.val * 384 + i.val, row_lt t.val t.isLt i⟩ j := by
  unfold out0_11
  frame_out
  pointwise [k0_pay1, k0_pay2, k0_pay3, k0_pay4]
  simp only [att_block, pool_block, yn_block, bonus_block, g_block, gate_block, lw_block, lb_block, wa_block, wp_block, wr_block]
  rfl

/-- The kernel's result array. -/
theorem out_array : (dats m 0 c).arrAt 11 cfg0.N = fun I : S8448x2048.Idx => val m c (I 0) (I 1) := by
  refine (dats m 0 c).arrAt_eq_of_covers 11 _ (by decide +kernel) fun t hf y => ?_
  blk_simp
  rw [after0_11]
  refine ((congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (eq_ix2 y)).trans (out_at m c t (y 0) (y 1))).trans
    (congrArg₂ (val m c) (Fin.ext ?_) (Fin.ext ?_))
  · blk_simp [idx t]
  · blk_simp [idx t]

end Kernel

/-- The reference ends with its arguments as they were; it has no semaphore. -/
theorem ref_frame : Cert.quiescent_MixRefIdeal (hMixRefIdeal := Cert.MixRefIdeal.Gen.facts) := fun m g _ =>
  (θ_run Cert.MixRefIdeal.defs _ _).mono (fun r h => ⟨fun c => (h c).2, sem_eq_zero_of_no_sems (by decide) r.2⟩)
    (Cert.MixRefIdeal.Value.run m g)

/-- The kernel's result is the reference's. -/
theorem value : Cert.algebraic_MixIdeal_MixRefIdeal (hMixIdeal := Cert.MixIdeal.Gen.facts)
    (hMixRefIdeal := Cert.MixRefIdeal.Gen.facts) := by
  intro m g m' g' _ hargs
  refine ⟨_, Cert.MixIdeal.Value.run_blocks m g,
    (θ_run Cert.MixRefIdeal.defs _ _).mono (fun r h c => ?_) (Cert.MixRefIdeal.Value.run m' g')⟩
  obtain ⟨h0, h1⟩ := h c
  refine ⟨h0.trans ?_, h1⟩
  rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2, out_array]
  refine ext2 fun i j => ?_
  pointwise
  simp only [sigmoid]
  rfl

end Cert.MixProof

end
-- ==== Proof.Layer.Turn.lean ====
/- The rotary embedding of heads of 64 columns: what it is at an element, as the reference's arrays spell it. -/
module

public import Idealize.ShloMosaic.Lib.Claim
public import Idealize.ShloMosaic.Lib.Pointwise
public import Idealize.ShloMosaic.Lib.KernelVsHost
public import Idealize.ShloMosaic.Lib.Pipeline.ValueKit

@[expose] public section

noncomputable section

namespace Cert.Turn

open Idealize.ShloMosaic

/-- The column 32 further on. -/
def right (j : Fin 768) : Fin 768 := ⟨(j.val + 32) % 768, Nat.mod_lt _ (by decide)⟩

/-- The column 32 further back. -/
def left (j : Fin 768) : Fin 768 := ⟨(j.val + 736) % 768, Nat.mod_lt _ (by decide)⟩

/-- Which of the 32 angles a column takes. -/
def low {n : ℕ} (j : Fin n) : Fin 32 := ⟨j.val % 32, Nat.mod_lt _ (by decide)⟩

/-- Entry `j` of a row `a` of 12 heads, turned by the angles of which `c` are the cosines and `s` the sines. -/
def turned (a : Fin 768 → EReal) (c s : Fin 32 → EReal) (j : Fin 768) : EReal :=
  if j.val % 64 < 32 then a j * c (low j) - a (right j) * s (low j) else a j * c (low j) + a (left j) * s (low j)

section Host
variable {N T n : ℕ}

/-- The reference's turn of `N` sequences of `T` positions and 12 heads: the halves of each head, combined. -/
def turnH (X : FVec Ideal ⟨4, ![N, T, 12, 64]⟩ .f32) (c s : FVec Ideal ⟨2, ![T, 32]⟩ .f32)
    (h0 : Shape.Slices (⟨4, ![N, T, 12, 64]⟩ : Shape) ![0, 0, 0, 0] ⟨4, ![N, T, 12, 32]⟩)
    (h1 : Shape.Slices (⟨4, ![N, T, 12, 64]⟩ : Shape) ![0, 0, 0, 32] ⟨4, ![N, T, 12, 32]⟩)
    (b1 : (⟨2, ![T, 32]⟩ : Shape).BroadcastsInDim ⟨4, ![1, T, 1, 32]⟩ ![1, 3])
    (b2 : (⟨4, ![1, T, 1, 32]⟩ : Shape).BroadcastsInDim ⟨4, ![N, T, 12, 32]⟩ ![0, 1, 2, 3])
    (hc : Shape.Concatenates [(⟨4, ![N, T, 12, 32]⟩ : Shape), ⟨4, ![N, T, 12, 32]⟩] ⟨4, ![N, T, 12, 64]⟩ 3) :
    FVec Ideal ⟨4, ![N, T, 12, 64]⟩ .f32 :=
  concatenate ⟨4, ![N, T, 12, 64]⟩ 3
    [⟨⟨4, ![N, T, 12, 32]⟩, subf (mulf (extractStridedSlice ⟨4, ![N, T, 12, 32]⟩ ![0, 0, 0, 0] X h0) (broadcastInDim ⟨4, ![N, T, 12, 32]⟩ ![0, 1, 2, 3] b2 (broadcastInDim ⟨4, ![1, T, 1, 32]⟩ ![1, 3] b1 c)))
        (mulf (extractStridedSlice ⟨4, ![N, T, 12, 32]⟩ ![0, 0, 0, 32] X h1) (broadcastInDim ⟨4, ![N, T, 12, 32]⟩ ![0, 1, 2, 3] b2 (broadcastInDim ⟨4, ![1, T, 1, 32]⟩ ![1, 3] b1 s)))⟩,
     ⟨⟨4, ![N, T, 12, 32]⟩, addf (mulf (extractStridedSlice ⟨4, ![N, T, 12, 32]⟩ ![0, 0, 0, 32] X h1) (broadcastInDim ⟨4, ![N, T, 12, 32]⟩ ![0, 1, 2, 3] b2 (broadcastInDim ⟨4, ![1, T, 1, 32]⟩ ![1, 3] b1 c)))
        (mulf (extractStridedSlice ⟨4, ![N, T, 12, 32]⟩ ![0, 0, 0, 0] X h0) (broadcastInDim ⟨4, ![N, T, 12, 32]⟩ ![0, 1, 2, 3] b2 (broadcastInDim ⟨4, ![1, T, 1, 32]⟩ ![1, 3] b1 s)))⟩] hc

/-- The turn at an element. -/
theorem turnH_at (hT : T ≠ 1) (X : FVec Ideal ⟨4, ![N, T, 12, 64]⟩ .f32) (c s : FVec Ideal ⟨2, ![T, 32]⟩ .f32) (h0 h1 b1 b2 hc)
    (b : Fin N) (p : Fin T) (h : Fin 12) (d : Fin 64) : turnH X c s h0 h1 b1 b2 hc (ix4 b p h d)
      = if _ : d.val < 32 then X (ix4 b p h d) * c (ix2 p (low d)) - X (ix4 b p h ⟨d.val + 32, by omega⟩) * s (ix2 p (low d))
        else X (ix4 b p h d) * c (ix2 p (low d)) + X (ix4 b p h ⟨d.val - 32, by omega⟩) * s (ix2 p (low d)) := by
  unfold turnH
  pointwise
  have hd := d.isLt
  split_ifs with h
  · refine congrArg₂ (· - ·) (congrArg₂ (· * ·) (congrArg X ?_) (congrArg c ?_)) (congrArg₂ (· * ·) (congrArg X ?_) (congrArg s ?_))
    all_goals
      funext a
      apply Fin.ext
      fin_cases a <;> simp [Shape.Idx.norm, hT, low, ix4, ix2] <;> first | omega | rfl | exact (Nat.mod_eq_of_lt h).symm
  · refine congrArg₂ (· + ·) (congrArg₂ (· * ·) (congrArg X ?_) (congrArg c ?_)) (congrArg₂ (· * ·) (congrArg X ?_) (congrArg s ?_))
    all_goals
      funext a
      apply Fin.ext
      fin_cases a <;> simp [Shape.Idx.norm, hT, low, ix4, ix2] <;> first | omega | rfl | exact (Nat.mod_eq_of_lt h).symm

/-- A reshape of rows of 12 heads into sequences, positions, heads and columns, at an element. -/
theorem split_at (a : FVec Ideal ⟨2, ![n, 768]⟩ .f32) (hs : Shape.ShapeCasts (⟨2, ![n, 768]⟩ : Shape) ⟨4, ![N, T, 12, 64]⟩)
    (b : Fin N) (p : Fin T) (h : Fin 12) (d : Fin 64) (R : Fin n) (j : Fin 768) (hR : R.val = b.val * T + p.val) (hj : j.val = h.val * 64 + d.val) :
    shapeCast ⟨4, ![N, T, 12, 64]⟩ a hs (ix4 b p h d) = a (ix2 R j) := by
  refine shapeCast_apply _ hs _ _ ?_
  rewrite [Shape.rowMajor_val_four, Shape.rowMajor_val_two]
  show R.val * 768 + j.val = ((b.val * T + p.val) * 12 + h.val) * 64 + d.val
  omega

/-- The reference's turn of rows of 12 heads, at an element. -/
theorem rows_at (hT : T ≠ 1) (hT0 : 0 < T) (hn : n = N * T) (a : FVec Ideal ⟨2, ![n, 768]⟩ .f32) (c s : FVec Ideal ⟨2, ![T, 32]⟩ .f32) (h0 h1 b1 b2 hc)
    (hs : Shape.ShapeCasts (⟨2, ![n, 768]⟩ : Shape) ⟨4, ![N, T, 12, 64]⟩) (hj : Shape.ShapeCasts (⟨4, ![N, T, 12, 64]⟩ : Shape) ⟨2, ![n, 768]⟩)
    (R : Fin n) (j : Fin 768) :
    shapeCast ⟨2, ![n, 768]⟩ (turnH (shapeCast ⟨4, ![N, T, 12, 64]⟩ a hs) c s h0 h1 b1 b2 hc) hj (ix2 R j)
      = turned (fun j => a (ix2 R j)) (fun k => c (ix2 ⟨R.val % T, Nat.mod_lt _ hT0⟩ k)) (fun k => s (ix2 ⟨R.val % T, Nat.mod_lt _ hT0⟩ k)) j := by
  have hjl := j.isLt
  have hRT : R.val / T < N := Nat.div_lt_of_lt_mul (lt_of_lt_of_eq R.isLt (hn.trans (Nat.mul_comm _ _)))
  have hdm : R.val = R.val / T * T + R.val % T := by rw [Nat.mul_comm]; exact (Nat.div_add_mod _ _).symm
  obtain ⟨b, hb⟩ : ∃ b : Fin N, b.val = R.val / T := ⟨⟨_, hRT⟩, rfl⟩
  obtain ⟨p, hp⟩ : ∃ p : Fin T, p = ⟨R.val % T, Nat.mod_lt _ hT0⟩ := ⟨_, rfl⟩
  obtain ⟨h, hh⟩ : ∃ h : Fin 12, h.val = j.val / 64 := ⟨⟨j.val / 64, by omega⟩, rfl⟩
  obtain ⟨d, hd⟩ : ∃ d : Fin 64, d.val = j.val % 64 := ⟨⟨j.val % 64, by omega⟩, rfl⟩
  rw [← hp]
  have hR : R.val = b.val * T + p.val := by rw [hb, hp]; exact hdm
  have key : ∀ (d' : Fin 64) (j' : Fin 768), j'.val = h.val * 64 + d'.val → shapeCast ⟨4, ![N, T, 12, 64]⟩ a hs (ix4 b p h d') = a (ix2 R j') :=
    fun d' j' e => split_at a hs b p h d' R j' hR e
  have hl : low d = low j := Fin.ext (by show d.val % 32 = j.val % 32; omega)
  refine (shapeCast_apply _ hj (ix2 R j) (ix4 b p h d) ?_).trans ?_
  · rewrite [Shape.rowMajor_val_four, Shape.rowMajor_val_two]
    show ((b.val * T + p.val) * 12 + h.val) * 64 + d.val = R.val * 768 + j.val
    omega
  · rw [turnH_at hT, hl, turned]
    by_cases h32 : d.val < 32
    · rw [dif_pos h32, if_pos (by omega), key d j (by omega), key _ (right j) (by show (j.val + 32) % 768 = h.val * 64 + (d.val + 32); omega)]
    · rw [dif_neg h32, if_neg (by omega), key d j (by omega), key _ (left j) (by show (j.val + 736) % 768 = h.val * 64 + (d.val - 32); omega)]

end Host

end Cert.Turn

end
-- ==== Proof.Layer.Rope.lean ====
/- The rotary embedding of the queries and keys: the kernel's two result arrays, element by element. -/
module

public import proofs.«01_k».proof.Proof.Gen.RopeIdeal.Value
public import proofs.«01_k».proof.Proof.Gen.RopeRefIdeal.Run
public import proofs.«01_k».proof.Defs
public import proofs.«01_k».proof.Proof.Layer.Norm
public import proofs.«01_k».proof.Proof.Layer.Turn
public import Idealize.ShloMosaic.Adequacy
public import Idealize.ShloMosaic.Init
public import Idealize.ShloMosaic.Lib.Pipeline.ValueKit
public import Idealize.ShloMosaic.Lib.Pipeline.ReadBack
public import Idealize.ShloMosaic.Lib.StableHlo.RunRead

@[expose] public section

noncomputable section

namespace Cert.RopeProof

open Idealize.ShloMosaic Idealize.ShloMosaic.TcCoe Idealize.SL.Sem
open Idealize.ShloMosaic.Pipeline (Dat)
open Cert.Layer Cert.Turn
open Idealize.ShloMosaic.StableHlo

section Tables
open Cert.RopeRefIdeal Cert.RopeRefIdeal.Gen

/-- The 32 frequencies. -/
def freq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles of a prompt's positions. -/
def angP : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 freq))

/-- The angles of a sample's positions. -/
def angS : FVec Ideal S8x32 .f32 :=
  mulf (broadcastInDim S8x32 ![0, 1] bcast_S8x1_S8x32_0_1 (broadcastInDim S8x1 ![0] bcast_S8_S8x1_0 (sitofp .f32 (addi (broadcastInDim S8 ![] bcast_S_S8 (constantI S_ 32 8192#32)) (iotaInDim S8 32 0))))) (broadcastInDim S8x32 ![0, 1] bcast_S1x32_S8x32_0_1 (broadcastInDim S1x32 ![1] bcast_S32_S1x32_1 freq))

/-- A prompt's and a sample's values of one table, at a row of the batch and an angle. -/
def pick (P : FVec Ideal S2048x32 .f32) (S : FVec Ideal S8x32 .f32) (R : Fin 8448) (k : Fin 32) : EReal :=
  if R.val < 8192 then P (ix2 ⟨R.val % 2048, Nat.mod_lt _ (by decide)⟩ k) else S (ix2 ⟨(R.val - 8192) % 8, Nat.mod_lt _ (by decide)⟩ k)

/-- The kernel's layout of one table: each row's 32 values four times, the samples' eight rows 32 times. -/
def table (P P' : FVec Ideal S2048x32 .f32) (S S' : FVec Ideal S8x32 .f32) (r : Fin 2304) (l : Fin 128) : EReal :=
  if r.val < 2048 then (if l.val % 64 < 32 then P' else P) (ix2 ⟨r.val % 2048, Nat.mod_lt _ (by decide)⟩ (low l))
  else (if l.val % 64 < 32 then S' else S) (ix2 ⟨r.val % 8, Nat.mod_lt _ (by decide)⟩ (low l))

end Tables

section Kernel
open Cert.RopeIdeal Cert.RopeIdeal.Gen
variable (m : (ℓ : Loc nD τ sig) → Buf (Elt Ideal) ℓ) (c : Dev nD)

/-- Four copies of two arrays in turn, side by side. -/
theorem quad_at {n : ℕ} (A B : FVec Ideal ⟨2, ![n, 32]⟩ .f32)
    (h : Shape.Concatenates [(⟨2, ![n, 32]⟩ : Shape), ⟨2, ![n, 32]⟩, ⟨2, ![n, 32]⟩, ⟨2, ![n, 32]⟩] ⟨2, ![n, 128]⟩ 1) (p : Fin n) (l : Fin 128) :
    concatenate ⟨2, ![n, 128]⟩ 1 [⟨⟨2, ![n, 32]⟩, A⟩, ⟨⟨2, ![n, 32]⟩, B⟩, ⟨⟨2, ![n, 32]⟩, A⟩, ⟨⟨2, ![n, 32]⟩, B⟩] h (ix2 p l)
      = (if l.val % 64 < 32 then A else B) (ix2 p (low l)) := by
  pointwise
  have hl := l.isLt
  by_cases h64 : l.val % 64 < 32
  · rw [if_pos h64]
    by_cases h1 : l.val < 32
    · rw [dif_pos h1]
      refine congrArg A ?_
      funext a; apply Fin.ext; fin_cases a <;> simp [Shape.Idx.norm, low, ix2] <;> first | omega | rfl
    · rw [dif_neg h1, dif_neg (by omega), dif_pos (by omega)]
      refine congrArg A ?_
      funext a; apply Fin.ext; fin_cases a <;> simp [Shape.Idx.norm, low, ix2] <;> first | omega | rfl
  · rw [if_neg h64]
    by_cases h1 : l.val < 64
    · rw [dif_neg (by omega), dif_pos (by omega)]
      refine congrArg B ?_
      funext a; apply Fin.ext; fin_cases a <;> simp [Shape.Idx.norm, low, ix2] <;> first | omega | rfl
    · rw [dif_neg (by omega), dif_neg (by omega), dif_neg (by omega)]
      refine congrArg B ?_
      funext a; apply Fin.ext; fin_cases a <;> simp [Shape.Idx.norm, low, ix2] <;> first | omega | rfl

/-- The host computes the cosines and sines of the angles. -/
theorem prompt_cos : V m c main_v13 = Host.cos angP := by
  after_reads_simp
  rfl

theorem prompt_sin : V m c main_v14 = Host.sin angP := by
  after_reads_simp
  rfl

theorem sample_cos : V m c main_v34 = Host.cos angS := by
  after_reads_simp
  rfl

theorem sample_sin : V m c main_v35 = Host.sin angS := by
  after_reads_simp
  rfl

/-- Two arrays in turn, four times. -/
def quadP (A B : FVec Ideal S2048x32 .f32) : FVec Ideal S2048x128 .f32 :=
  concatenate S2048x128 1 [⟨S2048x32, A⟩, ⟨S2048x32, B⟩, ⟨S2048x32, A⟩, ⟨S2048x32, B⟩] concatenates_S2048x32_S2048x32_S2048x32_S2048x32_S2048x128_d1

/-- The same for a sample's rows. -/
def quadS (A B : FVec Ideal S8x32 .f32) : FVec Ideal S8x128 .f32 :=
  concatenate S8x128 1 [⟨S8x32, A⟩, ⟨S8x32, B⟩, ⟨S8x32, A⟩, ⟨S8x32, B⟩] concatenates_S8x32_S8x32_S8x32_S8x32_S8x128_d1

/-- The prompt's rows above the sample's, which are repeated. -/
def stackT (A : FVec Ideal S2048x128 .f32) (B : FVec Ideal S8x128 .f32) : FVec Ideal S2304x128 .f32 :=
  concatenate S2304x128 0 [⟨S2048x128, A⟩, ⟨S256x128, shapeCast S256x128 (broadcastInDim S32x8x1x128 ![0, 1, 2, 3] bcast_S1x8x1x128_S32x8x1x128_0_1_2_3 (shapeCast S1x8x1x128 B shapeCasts_S8x128_S1x8x1x128)) shapeCasts_S32x8x1x128_S256x128⟩] concatenates_S2048x128_S256x128_S2304x128_d0

theorem prompt_quad_cos : V m c main_v15 = quadP (Host.cos angP) (Host.cos angP) := by
  rw [← prompt_cos m c]
  after_reads_simp
  unfold quadP
  congr 1

theorem sample_quad_cos : V m c main_v36 = quadS (Host.cos angS) (Host.cos angS) := by
  rw [← sample_cos m c]
  after_reads_simp
  unfold quadS
  congr 1

theorem prompt_quad_sin : V m c main_v18 = quadP (Host.negf (Host.sin angP)) (Host.sin angP) := by
  rw [← prompt_sin m c]
  after_reads_simp
  unfold quadP
  congr 1

theorem sample_quad_sin : V m c main_v39 = quadS (Host.negf (Host.sin angS)) (Host.sin angS) := by
  rw [← sample_sin m c]
  after_reads_simp
  unfold quadS
  congr 1

theorem cos_entry : V m c main_v43 = stackT (quadP (Host.cos angP) (Host.cos angP)) (quadS (Host.cos angS) (Host.cos angS)) := by
  rw [← prompt_quad_cos m c, ← sample_quad_cos m c]
  unfold stackT
  after_reads_simp
  refine congrArg₂ (fun A B => concatenate S2304x128 0 [⟨S2048x128, A⟩, ⟨S256x128, B⟩] concatenates_S2048x128_S256x128_S2304x128_d0) ?_ ?_
  · after_reads_simp
  · after_reads_simp
    rfl

theorem sin_entry : V m c main_v47 = stackT (quadP (Host.negf (Host.sin angP)) (Host.sin angP)) (quadS (Host.negf (Host.sin angS)) (Host.sin angS)) := by
  rw [← prompt_quad_sin m c, ← sample_quad_sin m c]
  unfold stackT
  after_reads_simp
  refine congrArg₂ (fun A B => concatenate S2304x128 0 [⟨S2048x128, A⟩, ⟨S256x128, B⟩] concatenates_S2048x128_S256x128_S2304x128_d0) ?_ ?_
  · after_reads_simp
  · after_reads_simp
    rfl

set_option maxRecDepth 20000 in
/-- A row of the stack. -/
theorem stackT_row (A : FVec Ideal S2048x128 .f32) (B : FVec Ideal S8x128 .f32) (r : Fin 2304) (l : Fin 128) :
    stackT A B (ix2 r l) = if h : r.val < 2048 then A (ix2 ⟨r.val, h⟩ l) else B (ix2 ⟨r.val % 8, Nat.mod_lt _ (by decide)⟩ l) := by
  have hr := r.isLt
  unfold stackT
  by_cases h : r.val < 2048
  · rw [dif_pos h]
    pointwise
    rw [dif_pos h]
  · rw [dif_neg h]
    pointwise
    rw [dif_neg h]
    exact congrArg (fun x => B (ix2 x l)) (Fin.ext (by show (r.val - 2048) % 8 = r.val % 8; omega))

/-- A row of a stacked table. -/
theorem stackT_at (A A' : FVec Ideal S2048x32 .f32) (B B' : FVec Ideal S8x32 .f32) (r : Fin 2304) (l : Fin 128) :
    stackT (quadP A' A) (quadS B' B) (ix2 r l) = table A A' B B' r l := by
  rw [stackT_row, table]
  by_cases h : r.val < 2048
  · rw [dif_pos h, if_pos h]
    refine (quad_at A' A concatenates_S2048x32_S2048x32_S2048x32_S2048x32_S2048x128_d1 _ l).trans ?_
    exact congrArg (fun x => (if l.val % 64 < 32 then A' else A) (ix2 x (low l))) (Fin.ext (Nat.mod_eq_of_lt h).symm)
  · rw [dif_neg h, if_neg h]
    exact quad_at B' B concatenates_S8x32_S8x32_S8x32_S8x32_S8x128_d1 _ l

/-- A table's row holds the values of the batch row it serves. -/
theorem table_pick (A A' : FVec Ideal S2048x32 .f32) (B B' : FVec Ideal S8x32 .f32) (r : Fin 2304) (l : Fin 128) (R : Fin 8448)
    (h : (R.val < 8192 ∧ r.val = R.val % 2048) ∨ (¬ R.val < 8192 ∧ r.val = 2048 + (R.val - 8192))) :
    table A A' B B' r l = if l.val % 64 < 32 then pick A' B' R (low l) else pick A B R (low l) := by
  unfold table pick
  obtain ⟨h0, h1⟩ | ⟨h0, h1⟩ := h
  · rw [if_pos (by omega), if_pos h0, if_pos h0, show (⟨r.val % 2048, Nat.mod_lt _ (by decide)⟩ : Fin 2048) = ⟨R.val % 2048, Nat.mod_lt _ (by decide)⟩ from Fin.ext (by show r.val % 2048 = R.val % 2048; omega)]
    split_ifs <;> rfl
  · rw [if_neg (by omega), if_neg h0, if_neg h0, show (⟨r.val % 8, Nat.mod_lt _ (by decide)⟩ : Fin 8) = ⟨(R.val - 8192) % 8, Nat.mod_lt _ (by decide)⟩ from Fin.ext (by show r.val % 8 = (R.val - 8192) % 8; omega)]
    split_ifs <;> rfl

/-- The negatives of a table's values. -/
theorem pick_neg (P : FVec Ideal S2048x32 .f32) (S : FVec Ideal S8x32 .f32) (R : Fin 8448) (k : Fin 32) :
    pick (Host.negf P) (Host.negf S) R k = -(pick P S R k) := by
  unfold pick
  split_ifs <;> rfl

/-- Which block each window holds at a point. -/
theorem idx : ∀ t : Fin cfg0.N, win0_0.index t = ![t.val, 0]
    ∧ win0_1.index t = ![t.val, 1]
    ∧ win0_2.index t = ![if t.val < 32 then t.val % 8 else 8, 0]
    ∧ win0_3.index t = ![if t.val < 32 then t.val % 8 else 8, 0]
    ∧ win0_4.index t = ![t.val, 0]
    ∧ win0_5.index t = ![t.val, 0] := by
  decide +kernel

theorem row_lt (n : ℕ) (hn : n < cfg0.N) (i : Fin 256) : n * 256 + i.val < 8448 := by
  have : n < 33 := hn
  omega

theorem tab_lt (n : ℕ) (i : Fin 256) : (if n < 32 then n % 8 else 8) * 256 + i.val < 2304 := by
  split_ifs <;> omega

theorem q_block (t : Fin cfg0.N) (i : Fin 256) (j : Fin 768) : iblk m c 0 t (ix2 i j)
    = m ((c : Thread nD τ).loc main_arg0) (ix2 ⟨t.val * 256 + i.val, row_lt t.val t.isLt i⟩ ⟨j.val, by omega⟩) := by
  blk_simp [iblk, idx t]
  entry_read
  blk_ext [idx t]

theorem k_block (t : Fin cfg0.N) (i : Fin 256) (j : Fin 768) : iblk m c 1 t (ix2 i j)
    = m ((c : Thread nD τ).loc main_arg0) (ix2 ⟨t.val * 256 + i.val, row_lt t.val t.isLt i⟩ ⟨768 + j.val, by omega⟩) := by
  blk_simp [iblk, idx t]
  entry_read
  blk_ext [idx t]

theorem cos_block (t : Fin cfg0.N) (i : Fin 256) (l : Fin 128) : iblk m c 2 t (ix2 i l)
    = V m c main_v43 (ix2 ⟨(if t.val < 32 then t.val % 8 else 8) * 256 + i.val, tab_lt t.val i⟩ l) := by
  blk_simp [iblk, idx t]
  blk_ext [idx t]

theorem sin_block (t : Fin cfg0.N) (i : Fin 256) (l : Fin 128) : iblk m c 3 t (ix2 i l)
    = V m c main_v47 (ix2 ⟨(if t.val < 32 then t.val % 8 else 8) * 256 + i.val, tab_lt t.val i⟩ l) := by
  blk_simp [iblk, idx t]
  blk_ext [idx t]

/-- The kernel's turn of 128 columns. -/
def turnV (v cs sn : FVec Ideal S256x128 .f32) : FVec Ideal S256x128 .f32 :=
  addf (mulf v cs) (mulf (select k0_pay4 (dynamicRotate 1 96#32 none v rotates_S256x128_d1) (dynamicRotate 1 32#32 none v rotates_S256x128_d1)) sn)

/-- Which lanes are in the first half of a head. -/
theorem half_at (i : Fin 256) (l : Fin 128) : k0_pay4 (ix2 i l) = if l.val % 64 < 32 then 1#1 else 0#1 := by
  unfold k0_pay4
  pointwise
  revert l
  decide +kernel

/-- The kernel's turn at an element. -/
theorem turnV_at (v cs sn : FVec Ideal S256x128 .f32) (i : Fin 256) (l : Fin 128) : turnV v cs sn (ix2 i l)
    = v (ix2 i l) * cs (ix2 i l) + (if l.val % 64 < 32 then v (ix2 i ⟨(l.val + 32) % 128, Nat.mod_lt _ (by decide)⟩)
        else v (ix2 i ⟨(l.val + 96) % 128, Nat.mod_lt _ (by decide)⟩)) * sn (ix2 i l) := by
  unfold turnV
  pointwise
  rw [half_at, show (⟨(l.val + 128 - 96) % 128, Nat.mod_lt _ (by decide)⟩ : Fin 128) = ⟨(l.val + 32) % 128, Nat.mod_lt _ (by decide)⟩ from Fin.ext (by show (l.val + 128 - 96) % 128 = (l.val + 32) % 128; omega),
    show (⟨(l.val + 128 - 32) % 128, Nat.mod_lt _ (by decide)⟩ : Fin 128) = ⟨(l.val + 96) % 128, Nat.mod_lt _ (by decide)⟩ from Fin.ext (by show (l.val + 128 - 32) % 128 = (l.val + 96) % 128; omega)]
  split_ifs <;> rfl

/-- The kernel's turn of a row of 12 heads, from the tables' rows. -/
def turnedV (a : Fin 768 → EReal) (cs sn : Fin 128 → EReal) (j : Fin 768) : EReal :=
  a j * cs ⟨j.val % 128, Nat.mod_lt _ (by decide)⟩ + (if j.val % 64 < 32 then a (right j) else a (left j)) * sn ⟨j.val % 128, Nat.mod_lt _ (by decide)⟩

/-- What one store holds at an element: the turn of the row's columns from `o` on. -/
theorem piece_at (X : Vec Ideal S256x768 .f32) (x2 x3 : Vec Ideal S256x128 .f32) (o : ℕ) (ho : o + 128 ≤ 768) (hm : o % 128 = 0)
    (hin : ∀ a, (![0, o] : Fin 2 → ℕ) a + S256x128.size a ≤ S256x768.size a) (i : Fin 256) (j : Fin 768) (x : S256x128.Idx)
    (h0 : i.val = (x 0).val) (h1 : j.val = o + (x 1).val) :
    turnV (View.ld X (Rect.unit (s := S256x768) ![0, o] S256x128.size hin)) (k0_pay2 (View.ld x2 r0_0)) (k0_pay3 (View.ld x3 r0_0)) x
      = turnedV (fun j => X (ix2 i j)) (fun l => x2 (ix2 i l)) (fun l => x3 (ix2 i l)) j := by
  obtain ⟨i', l, rfl⟩ : ∃ i' : Fin 256, ∃ l : Fin 128, x = ix2 i' l := ⟨x 0, x 1, eq_ix2 x⟩
  obtain rfl : i = i' := Fin.ext h0
  have h1 : j.val = o + l.val := h1
  rw [turnV_at]
  unfold k0_pay2 k0_pay3
  pointwise
  have hl := l.isLt
  have key : ∀ (a b : Fin 768), a.val = b.val → X (ix2 i a) = X (ix2 i b) := fun a b e => by rw [Fin.ext e]
  have hlow : (⟨j.val % 128, Nat.mod_lt _ (by decide)⟩ : Fin 128) = l := Fin.ext (by show j.val % 128 = l.val; omega)
  unfold turnedV
  rw [hlow, key ⟨o + l.val, _⟩ j h1.symm]
  by_cases h : l.val % 64 < 32
  · rw [if_pos h, if_pos (by omega), key ⟨o + (l.val + 32) % 128, _⟩ (right j) (by show o + (l.val + 32) % 128 = (j.val + 32) % 768; omega)]
  · rw [if_neg h, if_neg (by omega), key ⟨o + (l.val + 96) % 128, _⟩ (left j) (by show o + (l.val + 96) % 128 = (j.val + 736) % 768; omega)]

/-- What a point writes to the queries, at an element. -/
theorem out4_at (x0 x1 : Vec Ideal S256x768 .f32) (x2 x3 : Vec Ideal S256x128 .f32) (i : Fin 256) (j : Fin 768) :
    out0_4 x0 x1 x2 x3 (ix2 i j) = turnedV (fun j => x0 (ix2 i j)) (fun l => x2 (ix2 i l)) (fun l => x3 (ix2 i l)) j := by
  canon_tiles x h
  · exact piece_at x0 x2 x3 640 (by decide) (by decide) _ i j x h0 h1
  · exact piece_at x0 x2 x3 512 (by decide) (by decide) _ i j x h0 h1
  · exact piece_at x0 x2 x3 384 (by decide) (by decide) _ i j x h0 h1
  · exact piece_at x0 x2 x3 256 (by decide) (by decide) _ i j x h0 h1
  · exact piece_at x0 x2 x3 128 (by decide) (by decide) _ i j x h0 h1
  · exact piece_at x0 x2 x3 0 (by decide) (by decide) _ i j x h0 (h1.trans (Nat.zero_add _).symm)

/-- What a point writes to the keys, at an element. -/
theorem out5_at (x0 x1 : Vec Ideal S256x768 .f32) (x2 x3 : Vec Ideal S256x128 .f32) (i : Fin 256) (j : Fin 768) :
    out0_5 x0 x1 x2 x3 (ix2 i j) = turnedV (fun j => x1 (ix2 i j)) (fun l => x2 (ix2 i l)) (fun l => x3 (ix2 i l)) j := by
  canon_tiles x h
  · exact piece_at x1 x2 x3 640 (by decide) (by decide) _ i j x h0 h1
  · exact piece_at x1 x2 x3 512 (by decide) (by decide) _ i j x h0 h1
  · exact piece_at x1 x2 x3 384 (by decide) (by decide) _ i j x h0 h1
  · exact piece_at x1 x2 x3 256 (by decide) (by decide) _ i j x h0 h1
  · exact piece_at x1 x2 x3 128 (by decide) (by decide) _ i j x h0 h1
  · exact piece_at x1 x2 x3 0 (by decide) (by decide) _ i j x h0 (h1.trans (Nat.zero_add _).symm)

/-- The kernel's turn with a sine that is negative in the first half of a head is the turn. -/
theorem turnedV_eq (a : Fin 768 → EReal) (cs sn : Fin 128 → EReal) (k s : Fin 32 → EReal) (hc : ∀ l, cs l = k (low l))
    (hs : ∀ l : Fin 128, sn l = if l.val % 64 < 32 then -(s (low l)) else s (low l)) (j : Fin 768) : turnedV a cs sn j = turned a k s j := by
  unfold turnedV turned
  rw [hc, hs, show (low (⟨j.val % 128, Nat.mod_lt _ (by decide)⟩ : Fin 128)) = low j from Fin.ext (by show j.val % 128 % 32 = j.val % 32; omega)]
  by_cases h : j.val % 64 < 32
  · rw [if_pos h, if_pos h, if_pos (show j.val % 128 % 64 < 32 by omega), mul_neg, ← sub_eq_add_neg]
  · rw [if_neg h, if_neg h, if_neg (show ¬ j.val % 128 % 64 < 32 by omega)]

/-- Entry `j` of row `R` of the turned columns from `o` on. -/
def val (o : ℕ) (ho : o + 768 ≤ 2304) (R : Fin 8448) (j : Fin 768) : EReal :=
  turned (fun j => m ((c : Thread nD τ).loc main_arg0) (ix2 R ⟨o + j.val, by omega⟩)) (pick (Host.cos angP) (Host.cos angS) R) (pick (Host.sin angP) (Host.sin angS) R) j

/-- The row of the tables that serves a row of the batch. -/
theorem serves (t : ℕ) (i : Fin 256) :
    (t * 256 + i.val < 8192 ∧ (if t < 32 then t % 8 else 8) * 256 + i.val = (t * 256 + i.val) % 2048)
      ∨ (¬ t * 256 + i.val < 8192 ∧ (if t < 32 then t % 8 else 8) * 256 + i.val = 2048 + (t * 256 + i.val - 8192)) ∨ 33 ≤ t := by
  have := i.isLt
  split_ifs <;> omega

theorem serves' (t : Fin cfg0.N) (i : Fin 256) :
    (t.val * 256 + i.val < 8192 ∧ (if t.val < 32 then t.val % 8 else 8) * 256 + i.val = (t.val * 256 + i.val) % 2048)
      ∨ (¬ t.val * 256 + i.val < 8192 ∧ (if t.val < 32 then t.val % 8 else 8) * 256 + i.val = 2048 + (t.val * 256 + i.val - 8192)) := by
  have ht : t.val < 33 := t.isLt
  rcases serves t.val i with h | h | h
  · exact Or.inl h
  · exact Or.inr h
  · omega

/-- The kernel's turn of a row of the batch, with the blocks of the tables. -/
theorem turned_block (t : Fin cfg0.N) (i : Fin 256) (a : Fin 768 → EReal) (j : Fin 768) :
    turnedV a (fun l => iblk m c 2 t (ix2 i l)) (fun l => iblk m c 3 t (ix2 i l)) j
      = turned a (pick (Host.cos angP) (Host.cos angS) ⟨t.val * 256 + i.val, row_lt t.val t.isLt i⟩) (pick (Host.sin angP) (Host.sin angS) ⟨t.val * 256 + i.val, row_lt t.val t.isLt i⟩) j := by
  refine turnedV_eq a _ _ _ _ (fun l => ?_) (fun l => ?_) j
  · rw [cos_block, cos_entry, stackT_at, table_pick _ _ _ _ _ _ ⟨t.val * 256 + i.val, row_lt t.val t.isLt i⟩ (serves' t i), ite_self]
  · rw [sin_block, sin_entry, stackT_at, table_pick _ _ _ _ _ _ ⟨t.val * 256 + i.val, row_lt t.val t.isLt i⟩ (serves' t i), pick_neg]

/-- What a point writes to the queries. -/
theorem q_at (t : Fin cfg0.N) (i : Fin 256) (j : Fin 768) : out0_4 (iblk m c 0 t) (iblk m c 1 t) (iblk m c 2 t) (iblk m c 3 t) (ix2 i j)
    = val m c 0 (by decide) ⟨t.val * 256 + i.val, row_lt t.val t.isLt i⟩ j := by
  rw [out4_at, turned_block, val]
  refine congrArg (fun a => turned a _ _ j) (funext fun j => ?_)
  rw [q_block]
  exact congrArg (fun x => m ((c : Thread nD τ).loc main_arg0) (ix2 _ x)) (Fin.ext (Nat.zero_add _).symm)

/-- What a point writes to the keys. -/
theorem k_at (t : Fin cfg0.N) (i : Fin 256) (j : Fin 768) : out0_5 (iblk m c 0 t) (iblk m c 1 t) (iblk m c 2 t) (iblk m c 3 t) (ix2 i j)
    = val m c 768 (by decide) ⟨t.val * 256 + i.val, row_lt t.val t.isLt i⟩ j := by
  rw [out5_at, turned_block, val]
  refine congrArg (fun a => turned a _ _ j) (funext fun j => ?_)
  rw [k_block]

/-- The kernel's array of turned queries. -/
theorem q_array : (dats m 0 c).arrAt 4 cfg0.N = fun I : S8448x768.Idx => val m c 0 (by decide) (I 0) (I 1) := by
  refine (dats m 0 c).arrAt_eq_of_covers 4 _ (by decide +kernel) fun t hf y => ?_
  blk_simp
  rw [after0_4]
  refine ((congrArg (out0_4 (iblk m c 0 t) (iblk m c 1 t) (iblk m c 2 t) (iblk m c 3 t)) (eq_ix2 y)).trans (q_at m c t (y 0) (y 1))).trans
    (congrArg₂ (val m c 0 (by decide)) (Fin.ext ?_) (Fin.ext ?_))
  · blk_simp [idx t]
  · blk_simp [idx t]

/-- The kernel's array of turned keys. -/
theorem k_array : (dats m 0 c).arrAt 5 cfg0.N = fun I : S8448x768.Idx => val m c 768 (by decide) (I 0) (I 1) := by
  refine (dats m 0 c).arrAt_eq_of_covers 5 _ (by decide +kernel) fun t hf y => ?_
  blk_simp
  rw [after0_5]
  refine ((congrArg (out0_5 (iblk m c 0 t) (iblk m c 1 t) (iblk m c 2 t) (iblk m c 3 t)) (eq_ix2 y)).trans (k_at m c t (y 0) (y 1))).trans
    (congrArg₂ (val m c 768 (by decide)) (Fin.ext ?_) (Fin.ext ?_))
  · blk_simp [idx t]
  · blk_simp [idx t]

end Kernel

section Reference
open Cert.RopeRefIdeal Cert.RopeRefIdeal.Gen

/-- The reference's turned prompts. -/
def turnP (Y : FVec Ideal S8448x768 .f32) : FVec Ideal S8192x768 .f32 :=
  shapeCast S8192x768 (turnH (N := 4) (T := 2048) (shapeCast S4x2048x12x64 (extractStridedSlice S8192x768 ![0, 0] Y slices_S8448x768_S8192x768_0_0) shapeCasts_S8192x768_S4x2048x12x64) (Host.cos angP) (Host.sin angP)
    slices_S4x2048x12x64_S4x2048x12x32_0_0_0_0 slices_S4x2048x12x64_S4x2048x12x32_0_0_0_32 bcast_S2048x32_S1x2048x1x32_1_3 bcast_S1x2048x1x32_S4x2048x12x32_0_1_2_3 concatenates_S4x2048x12x32_S4x2048x12x32_S4x2048x12x64_d3) shapeCasts_S4x2048x12x64_S8192x768

/-- The reference's turned samples. -/
def turnS (Y : FVec Ideal S8448x768 .f32) : FVec Ideal S256x768 .f32 :=
  shapeCast S256x768 (turnH (N := 32) (T := 8) (shapeCast S32x8x12x64 (extractStridedSlice S256x768 ![8192, 0] Y slices_S8448x768_S256x768_8192_0) shapeCasts_S256x768_S32x8x12x64) (Host.cos angS) (Host.sin angS)
    slices_S32x8x12x64_S32x8x12x32_0_0_0_0 slices_S32x8x12x64_S32x8x12x32_0_0_0_32 bcast_S8x32_S1x8x1x32_1_3 bcast_S1x8x1x32_S32x8x12x32_0_1_2_3 concatenates_S32x8x12x32_S32x8x12x32_S32x8x12x64_d3) shapeCasts_S32x8x12x64_S256x768

/-- The reference's turned batch: the prompts' rows, then the samples'. -/
def turnB (Y : FVec Ideal S8448x768 .f32) : FVec Ideal S8448x768 .f32 :=
  concatenate S8448x768 0 [⟨S8192x768, turnP Y⟩, ⟨S256x768, turnS Y⟩] concatenates_S8192x768_S256x768_S8448x768_d0

theorem turnP_at (Y : FVec Ideal S8448x768 .f32) (R : Fin 8192) (j : Fin 768) : turnP Y (ix2 R j)
    = turned (fun j => Y (ix2 ⟨R.val, by omega⟩ j)) (fun k => Host.cos angP (ix2 ⟨R.val % 2048, Nat.mod_lt _ (by decide)⟩ k)) (fun k => Host.sin angP (ix2 ⟨R.val % 2048, Nat.mod_lt _ (by decide)⟩ k)) j := by
  refine (rows_at (N := 4) (T := 2048) (n := 8192) (by decide) (by decide) (by decide) _ _ _ _ _ _ _ _ _ _ R j).trans ?_
  refine congrArg (fun a => turned a _ _ j) (funext fun j => ?_)
  pointwise

theorem turnS_at (Y : FVec Ideal S8448x768 .f32) (R : Fin 256) (j : Fin 768) : turnS Y (ix2 R j)
    = turned (fun j => Y (ix2 ⟨8192 + R.val, by omega⟩ j)) (fun k => Host.cos angS (ix2 ⟨R.val % 8, Nat.mod_lt _ (by decide)⟩ k)) (fun k => Host.sin angS (ix2 ⟨R.val % 8, Nat.mod_lt _ (by decide)⟩ k)) j := by
  refine (rows_at (N := 32) (T := 8) (n := 256) (by decide) (by decide) (by decide) _ _ _ _ _ _ _ _ _ _ R j).trans ?_
  refine congrArg (fun a => turned a _ _ j) (funext fun j => ?_)
  pointwise

set_option maxRecDepth 20000 in
/-- The reference's turn at an element. -/
theorem turnB_at (Y : FVec Ideal S8448x768 .f32) (R : Fin 8448) (j : Fin 768) : turnB Y (ix2 R j)
    = turned (fun j => Y (ix2 R j)) (pick (Host.cos angP) (Host.cos angS) R) (pick (Host.sin angP) (Host.sin angS) R) j := by
  have e : turnB Y (ix2 R j) = if h : R.val < 8192 then turnP Y (ix2 ⟨R.val, h⟩ j) else turnS Y (ix2 ⟨R.val - 8192, by omega⟩ j) := by
    unfold turnB
    pointwise
  rw [e]
  by_cases h : R.val < 8192
  · rw [dif_pos h, turnP_at]
    unfold pick
    simp only [if_pos h]
  · rw [dif_neg h, turnS_at]
    unfold pick
    simp only [if_neg h]
    refine congrArg (fun a => turned a _ _ j) (funext fun j => ?_)
    exact congrArg (fun x => Y (ix2 x j)) (Fin.ext (by show 8192 + (R.val - 8192) = R.val; omega))

/-- The reference's queries. -/
theorem res_q (m : (ℓ : Loc nD τ sig) → Buf (Elt Ideal) ℓ) (c : Dev nD) : Value.res_main_v69 m c
    = turnB (extractStridedSlice S8448x768 ![0, 0] (m ((c.tc : Thread nD τ).loc main_arg0)) slices_S8448x2304_S8448x768_0_0) := by
  unfold Value.res_main_v69 turnB turnP turnS turnH angP angS freq
  rfl

/-- The reference's keys. -/
theorem res_k (m : (ℓ : Loc nD τ sig) → Buf (Elt Ideal) ℓ) (c : Dev nD) : Value.res_main_v139 m c
    = turnB (extractStridedSlice S8448x768 ![0, 768] (m ((c.tc : Thread nD τ).loc main_arg0)) slices_S8448x2304_S8448x768_0_768) := by
  unfold Value.res_main_v139 turnB turnP turnS turnH angP angS freq
  rfl

/-- The columns from 0 on. -/
theorem cut_q (X : FVec Ideal S8448x2304 .f32) (R : Fin 8448) (j : Fin 768) :
    extractStridedSlice S8448x768 ![0, 0] X slices_S8448x2304_S8448x768_0_0 (ix2 R j) = X (ix2 R ⟨0 + j.val, by omega⟩) := by
  pointwise

/-- The columns from 768 on. -/
theorem cut_k (X : FVec Ideal S8448x2304 .f32) (R : Fin 8448) (j : Fin 768) :
    extractStridedSlice S8448x768 ![0, 768] X slices_S8448x2304_S8448x768_0_768 (ix2 R j) = X (ix2 R ⟨768 + j.val, by omega⟩) := by
  pointwise

end Reference

/-- The reference ends with its arguments as they were; it has no semaphore. -/
theorem ref_frame : Cert.quiescent_RopeRefIdeal (hRopeRefIdeal := Cert.RopeRefIdeal.Gen.facts) := fun m g _ =>
  (θ_run Cert.RopeRefIdeal.defs _ _).mono (fun r h => ⟨fun c => (h c).2.2, sem_eq_zero_of_no_sems (by decide) r.2⟩)
    (Cert.RopeRefIdeal.Value.run m g)

/-- The kernel's results are the reference's. -/
theorem value : Cert.algebraic_RopeIdeal_RopeRefIdeal (hRopeIdeal := Cert.RopeIdeal.Gen.facts)
    (hRopeRefIdeal := Cert.RopeRefIdeal.Gen.facts) := by
  intro m g m' g' _ hargs
  refine ⟨_, _, Cert.RopeIdeal.Value.run_blocks m g,
    (θ_run Cert.RopeRefIdeal.defs _ _).mono (fun r h c => ?_) (Cert.RopeRefIdeal.Value.run m' g')⟩
  obtain ⟨h0, h1, h2⟩ := h c
  refine ⟨h0.trans ?_, h1.trans ?_, h2⟩
  · rw [res_q, hargs c, q_array]
    refine ext2 fun i j => ?_
    rw [turnB_at]
    simp only [cut_q]
    rfl
  · rw [res_k, hargs c, k_array]
    refine ext2 fun i j => ?_
    rw [turnB_at]
    simp only [cut_k]
    rfl

end Cert.RopeProof

end
-- ==== Proof.Layer.Finite.lean ====
/- A normalised row is finite where its gain is, whatever the row: an infinite entry makes the mean square infinite, and
   what divides by its root is zero. -/
module

public import proofs.«01_k».proof.Proof.Layer.Norm

@[expose] public section

noncomputable section

namespace Cert.Layer

open Idealize.ShloMosaic

/-- The value is a real number. -/
def IsReal (x : EReal) : Prop := ∃ r : ℝ, x = r

theorem sub_self_of {x : EReal} (h : IsReal x) : x - x = 0 := by
  obtain ⟨r, rfl⟩ := h
  rw [← EReal.coe_sub, sub_self, EReal.coe_zero]

theorem fin_mul {x y : EReal} (hx : IsReal x) (hy : IsReal y) : IsReal (x * y) := by
  obtain ⟨r, rfl⟩ := hx
  obtain ⟨s, rfl⟩ := hy
  exact ⟨r * s, (EReal.coe_mul r s).symm⟩

/-- An absolute value below infinity is that of a real number. -/
theorem fin_of_abs_lt {x : EReal} (h : max x (-x) < ⊤) : IsReal x := by
  induction x with
  | bot => simp at h
  | coe r => exact ⟨r, rfl⟩
  | top => simp at h

theorem sq_nonneg (x : EReal) : 0 ≤ x * x := by
  induction x with
  | bot => simp
  | coe r => rw [← EReal.coe_mul]; exact_mod_cast mul_self_nonneg r
  | top => simp

theorem sum_sq {n : ℕ} (f : Fin n → EReal) (hf : ∀ l, IsReal (f l)) :
    ∃ r : ℝ, 0 ≤ r ∧ ∑ l, f l * f l = (r : EReal) := by
  choose g hg using hf
  have : ∀ s : Finset (Fin n), ∃ r : ℝ, 0 ≤ r ∧ ∑ l ∈ s, f l * f l = (r : EReal) := by
    intro s
    induction s using Finset.induction_on with
    | empty => exact ⟨0, le_refl _, by simp⟩
    | insert a s ha ih =>
      obtain ⟨r, h0, hr⟩ := ih
      refine ⟨g a * g a + r, add_nonneg (mul_self_nonneg _) h0, ?_⟩
      rw [Finset.sum_insert ha, hr, hg a, EReal.coe_add, EReal.coe_mul]
  exact this Finset.univ

theorem count_eq : Ideal.ofBits .f32 0x45000000#32 = ((2048 : ℝ) : EReal) := by
  simp [Ideal.ofBits, Ideal.ieee, -EReal.coe_mul]; norm_num

theorem small_eq : ∃ e : ℝ, 0 < e ∧ Ideal.ofBits .f32 0x358637BD#32 = (e : EReal) := by
  simp [Ideal.ofBits, Ideal.ieee, -EReal.coe_mul]

theorem rms_fin (x : Fin 2048 → EReal) (k : Fin 2048) : IsReal (rms x k) := by
  obtain ⟨e, he, hs⟩ := small_eq
  unfold rms
  rw [count_eq, hs, Ideal.div_coe (by norm_num)]
  by_cases h : ∀ l, IsReal (x l)
  · obtain ⟨r, h0, hr⟩ := sum_sq x h
    refine fin_mul (h k) ?_
    rw [hr, ← EReal.coe_mul, ← EReal.coe_add, Ideal.rsqrt_coe]
    have hp : 0 < r * (1 / 2048) + e := by positivity
    rw [if_neg (not_lt.mpr hp.le), if_neg hp.ne']
    exact ⟨_, rfl⟩
  · obtain ⟨l, hl⟩ := not_forall.mp h
    have ht : x l * x l = ⊤ := by
      generalize x l = y at hl
      induction y with
      | bot => simp
      | coe r => exact absurd ⟨r, rfl⟩ hl
      | top => simp
    have hsum : ∑ l, x l * x l = ⊤ :=
      top_le_iff.mp (ht ▸ Finset.single_le_sum (f := fun l => x l * x l) (fun i _ => sq_nonneg (x i)) (Finset.mem_univ l))
    rw [hsum, EReal.top_mul_coe_of_pos (by norm_num), EReal.top_add_coe, Ideal.rsqrt_top, mul_zero]
    exact ⟨0, rfl⟩

theorem normAt_fin (x g : Fin 2048 → EReal) (k : Fin 2048) (hg : IsReal (g k)) : IsReal (normAt x g k) := fin_mul (rms_fin x k) hg

end Cert.Layer

end
-- ==== Proof.Layer.PeerQuery.lean ====
/- The queries of the channel mixer and its normalised input: the kernel's two result arrays, element by element. -/
module

public import proofs.«01_k».proof.Proof.Query.Ideal
public import proofs.«01_k».proof.Proof.Query.Bits
public import proofs.«01_k».proof.Proof.Gen.PeerQueryRefIdeal.Run
public import proofs.«01_k».proof.Proof.Gen.Pre_query_finite
public import proofs.«01_k».proof.Defs
public import proofs.«01_k».proof.Proof.Layer.Finite
public import Idealize.ShloMosaic.Adequacy
public import Idealize.ShloMosaic.Init
public import Idealize.ShloMosaic.Lib.ReduceAll
public import Idealize.ShloMosaic.Lib.Pipeline.ValueKit
public import Idealize.ShloMosaic.Lib.Pipeline.ReadBack

@[expose] public section

noncomputable section

namespace Cert.PeerQueryProof

open Idealize.ShloMosaic Idealize.ShloMosaic.TcCoe Idealize.SL.Sem
open Idealize.ShloMosaic.Pipeline (Dat)
open Cert.Layer

section Kernel
open Cert.PeerQueryIdeal Cert.PeerQueryIdeal.Gen Cert.PeerQueryIdeal.Hand
variable (m : (ℓ : Loc nD τ sig) → Buf (Elt Ideal) ℓ) (c : Dev nD)

/-- Which block each window holds at a point. -/
theorem idx : ∀ t : Fin cfg0.N, win0_0.index t = ![t.val / 4, 0] ∧ win0_1.index t = ![0, 0]
    ∧ win0_2.index t = ![0, t.val % 4] ∧ win0_3.index t = ![0, t.val % 4] ∧ win0_4.index t = ![t.val / 4, t.val % 4]
    ∧ win0_5.index t = ![t.val / 4, 0] := by
  decide +kernel

/-- The normalised input at a row, from the arguments. -/
def xn (R : Fin 8448) (k : Fin 2048) : EReal :=
  normAt (fun k => m ((c : Thread nD τ).loc main_arg0) (ix2 R k)) (fun k => m ((c : Thread nD τ).loc main_arg1) (ix1 k)) k

theorem row_lt (n : ℕ) (hn : n < cfg0.N) (i : Fin 768) : n / 4 * 768 + i.val < 8448 := by
  have : n < 44 := hn
  omega

theorem x_block (t : Fin cfg0.N) (i : Fin 768) (k : Fin 2048) : iblk m c 0 t (ix2 i k)
    = m ((c : Thread nD τ).loc main_arg0) (ix2 ⟨t.val / 4 * 768 + i.val, row_lt t.val t.isLt i⟩ k) := by
  blk_simp [iblk, idx t]
  entry_read
  blk_ext [idx t]

theorem g_block (t : Fin cfg0.N) (k : Fin 2048) : iblk m c 1 t (ix2 0 k) = m ((c : Thread nD τ).loc main_arg1) (ix1 k) := by
  blk_simp [iblk, idx t]
  entry_read
  pointwise
  blk_ext [idx t]

/-- The rounded weights are the weights. -/
theorem w_block (t : Fin cfg0.N) (k : Fin 2048) (j : Fin 512) : iblk m c 2 t (ix2 k j)
    = m ((c : Thread nD τ).loc main_arg2) (ix2 k ⟨t.val % 4 * 512 + j.val, by omega⟩) := by
  blk_simp [iblk, idx t]
  entry_read
  pointwise
  blk_ext [idx t]

/-- What is left of a weight after its rounding. -/
def over (w : EReal) : EReal := w - w

theorem v_block (t : Fin cfg0.N) (k : Fin 2048) (j : Fin 512) : iblk m c 3 t (ix2 k j)
    = over (m ((c : Thread nD τ).loc main_arg2) (ix2 k ⟨t.val % 4 * 512 + j.val, by omega⟩)) := by
  blk_simp [iblk, idx t]
  entry_read
  pointwise
  refine congrArg (fun I => over (m ((c : Thread nD τ).loc main_arg2) I)) ?_
  blk_ext [idx t]

theorem lead_row (t : Fin cfg0.N) : (lead t).val / 4 = t.val / 4 := by
  show t.val / 4 * 4 / 4 = t.val / 4
  omega

theorem norm_at (t : Fin cfg0.N) (i : Fin 768) (k : Fin 2048) :
    k0_pay1 (iblk m c 0 t) (iblk m c 1 t) (ix2 i k) = xn m c ⟨t.val / 4 * 768 + i.val, row_lt t.val t.isLt i⟩ k := by
  pointwise [k0_pay1]
  simp only [x_block, g_block]
  rfl

/-- The rows' buffer holds the normalised rows of the point's block. -/
theorem rows_at (t : Fin cfg0.N) (i : Fin 768) (k : Fin 2048) :
    rows m c t (ix2 i k) = xn m c ⟨t.val / 4 * 768 + i.val, row_lt t.val t.isLt i⟩ k := by
  refine (norm_at m c (lead t) i k).trans (congrArg (xn m c · k) (Fin.ext ?_))
  show (lead t).val / 4 * 768 + i.val = _
  rw [lead_row]

/-- Their remainders are zero where the gain is finite. -/
theorem rest_at (hg : ∀ k, IsReal (m ((c : Thread nD τ).loc main_arg1) (ix1 k))) (t : Fin cfg0.N) (i : Fin 768) (k : Fin 2048) :
    rest m c t (ix2 i k) = (0 : EReal) := by
  unfold rest
  pointwise [k0_pay3, k0_pay2]
  rw [norm_at m c (lead t) i k]
  exact sub_self_of (normAt_fin _ _ _ (hg k))

theorem over_zero (hw : ∀ k j, IsReal (m ((c : Thread nD τ).loc main_arg2) (ix2 k j))) (k j : Fin 2048) :
    over (m ((c : Thread nD τ).loc main_arg2) (ix2 k j)) = 0 := sub_self_of (hw k j)

/-- The products at row `R` and column `j`, from the arguments. -/
def val (R : Fin 8448) (j : Fin 2048) : EReal :=
  projAt (fun k => m ((c : Thread nD τ).loc main_arg0) (ix2 R k)) (fun k => m ((c : Thread nD τ).loc main_arg1) (ix1 k))
    (fun k => m ((c : Thread nD τ).loc main_arg2) (ix2 k j))

/-- What a point writes of the products, at an element: of the three sums the first remains. -/
theorem prod_at (hg : ∀ k, IsReal (m ((c : Thread nD τ).loc main_arg1) (ix1 k)))
    (hw : ∀ k j, IsReal (m ((c : Thread nD τ).loc main_arg2) (ix2 k j))) (t : Fin cfg0.N) (i : Fin 768) (j : Fin 512) :
    prod m c t (ix2 i j)
      = val m c ⟨t.val / 4 * 768 + i.val, row_lt t.val t.isLt i⟩ ⟨t.val % 4 * 512 + j.val, by omega⟩ := by
  unfold prod
  pointwise [k0_pay4]
  simp only [rows_at, rest_at m c hg, w_block, v_block, over_zero m c hw, mul_zero, zero_mul, Finset.sum_const_zero, add_zero]
  rfl

/-- The products' array. -/
theorem prod_array (hg : ∀ k, IsReal (m ((c : Thread nD τ).loc main_arg1) (ix1 k)))
    (hw : ∀ k j, IsReal (m ((c : Thread nD τ).loc main_arg2) (ix2 k j))) :
    (dats m 0 c).arrAt 4 cfg0.N = fun I : S8448x2048.Idx => val m c (I 0) (I 1) := by
  refine (dats m 0 c).arrAt_eq_of_covers 4 _ (by decide +kernel) fun t hf y => ?_
  blk_simp
  rw [after_4]
  refine ((congrArg (prod m c t) (eq_ix2 y)).trans (prod_at m c hg hw t (y 0) (y 1))).trans
    (congrArg₂ (val m c) (Fin.ext ?_) (Fin.ext ?_))
  · blk_simp [idx t]
  · blk_simp [idx t]

/-- The normalised rows' array. -/
theorem rows_array : (dats m 0 c).arrAt 5 cfg0.N = fun I : S8448x2048.Idx => xn m c (I 0) (I 1) := by
  refine (dats m 0 c).arrAt_eq_of_covers 5 _ (by decide +kernel) fun t hf y => ?_
  blk_simp
  rw [after_5]
  refine ((congrArg (rows m c t) (eq_ix2 y)).trans (rows_at m c t (y 0) (y 1))).trans
    (congrArg₂ (xn m c) (Fin.ext ?_) (Fin.ext ?_))
  · blk_simp [idx t]
  · blk_simp [idx t]

/-- The run with its results named, the arguments as they were. -/
theorem run_arrays (ρ : Dev nD → PrngReg) : θ_run defs (onTc (τ := τ) (main (F := Ideal))) ⟨m, fun _ => 0, ρ⟩ fun r => ∀ c : Dev nD,
      r.2.mem ((c.tc : Thread nD τ).loc main_v5_0) = (dats m 0 c).arrAt 4 cfg0.N
      ∧ r.2.mem ((c.tc : Thread nD τ).loc main_v5_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨Pipeline.FramePost.out_eq h.1 c 4, Pipeline.FramePost.out_eq h.1 c 5, h.2 c⟩)
    (θ_run_and (run_main m ρ) (frame_of m ρ (dats m) (A_eq m) (run_main m ρ)))

theorem lt_of_cmp {x : EReal} (e : Ideal.cmp .olt x (Ideal.ofBits .f32 0x7F800000#32) = 1#1) : x < ⊤ := by
  have hi : Ideal.ofBits .f32 0x7F800000#32 = ⊤ := by simp [Ideal.ofBits, Ideal.ieee]
  rw [hi] at e
  by_contra h
  simp [Ideal.cmp, h] at e

/-- What the precondition says of the gain and of the weights. -/
theorem finite_args (h : Cert.Pre_PeerQueryIdeal_query_finite (hPre_query_finite := Cert.Pre_query_finite.Gen.facts) m) :
    (∀ k, IsReal (m ((c : Thread nD τ).loc main_arg1) (ix1 k))) ∧ ∀ k j, IsReal (m ((c : Thread nD τ).loc main_arg2) (ix2 k j)) := by
  have h0 := congrFun (h c) ix0
  unfold Cert.Pre_query_finite.fn at h0
  obtain ⟨h1, h2⟩ := IntOp.andi_eq_one.1 h0
  haveI : Subsingleton Cert.Pre_query_finite.S_.Idx := ⟨fun a b => funext fun i => i.elim0⟩
  refine ⟨fun k => fin_of_abs_lt ?_, fun k j => fin_of_abs_lt ?_⟩
  · have e := Host.reduce_andi_all _ _ _ _ _ h1 (ix1 k)
    pointwise at e
    exact lt_of_cmp e
  · have e := Host.reduce_andi_all _ _ _ _ _ h2 (ix2 k j)
    pointwise at e
    exact lt_of_cmp e

end Kernel

/-- The reference ends with its arguments as they were; it has no semaphore. -/
theorem ref_frame : Cert.quiescent_PeerQueryRefIdeal (hPeerQueryRefIdeal := Cert.PeerQueryRefIdeal.Gen.facts) := fun m g _ =>
  (θ_run Cert.PeerQueryRefIdeal.defs _ _).mono (fun r h => ⟨fun c => (h c).2.2, sem_eq_zero_of_no_sems (by decide) r.2⟩)
    (Cert.PeerQueryRefIdeal.Value.run m g)

/-- The kernel's two results are the reference's. -/
theorem value : Cert.algebraic_PeerQueryIdeal_PeerQueryRefIdeal_pre_query_finite
    (hPeerQueryIdeal := Cert.PeerQueryIdeal.Gen.facts) (hPeerQueryRefIdeal := Cert.PeerQueryRefIdeal.Gen.facts)
    (hPre_query_finite := Cert.Pre_query_finite.Gen.facts) := by
  intro m g m' g' hpre hargs
  refine ⟨_, _, run_arrays m g,
    (θ_run Cert.PeerQueryRefIdeal.defs _ _).mono (fun r h c => ?_) (Cert.PeerQueryRefIdeal.Value.run m' g')⟩
  obtain ⟨h0, h1, h2⟩ := h c
  obtain ⟨hg, hw⟩ := finite_args m c hpre
  refine ⟨h0.trans ?_, h1.trans ?_, h2⟩
  · rw [(hargs c).1, (hargs c).2.1, (hargs c).2.2, prod_array m c hg hw]
    funext I
    rw [eq_ix2 I]
    pointwise
    rfl
  · rw [(hargs c).1, (hargs c).2.1, rows_array]
    refine ext2 fun i j => ?_
    pointwise
    rfl

end Cert.PeerQueryProof

end
-- ==== Proof.lean ====
/- The claim: each program terminates and leaves its arguments as they were, and each kernel's results are its
   reference's, over the extended reals. -/
module

public import proofs.«01_k».proof.Defs
public import proofs.«01_k».proof.Proof.Gen.Band1
public import proofs.«01_k».proof.Proof.Gen.Band1.Skeleton
public import proofs.«01_k».proof.Proof.Gen.Band1.Launch
public import proofs.«01_k».proof.Proof.Gen.Band1.Points
public import proofs.«01_k».proof.Proof.Gen.Band1.Frame
public import proofs.«01_k».proof.Proof.Gen.Band1Ideal
public import proofs.«01_k».proof.Proof.Gen.Band1Ideal.Skeleton
public import proofs.«01_k».proof.Proof.Gen.Band1Ideal.Launch
public import proofs.«01_k».proof.Proof.Gen.Band1Ideal.Points
public import proofs.«01_k».proof.Proof.Gen.Band1Ideal.Frame
public import proofs.«01_k».proof.Proof.Gen.Band1Ideal.Value
public import proofs.«01_k».proof.Proof.Gen.Band1RefIdeal
public import proofs.«01_k».proof.Proof.Gen.Band1RefIdeal.Run
public import proofs.«01_k».proof.Proof.Gen.ProjQkv
public import proofs.«01_k».proof.Proof.Gen.ProjQkv.Skeleton
public import proofs.«01_k».proof.Proof.Gen.ProjQkv.Launch
public import proofs.«01_k».proof.Proof.Gen.ProjQkv.Points
public import proofs.«01_k».proof.Proof.Gen.ProjQkv.Frame
public import proofs.«01_k».proof.Proof.Gen.ProjQkvIdeal
public import proofs.«01_k».proof.Proof.Gen.ProjQkvIdeal.Skeleton
public import proofs.«01_k».proof.Proof.Gen.ProjQkvIdeal.Launch
public import proofs.«01_k».proof.Proof.Gen.ProjQkvIdeal.Points
public import proofs.«01_k».proof.Proof.Gen.ProjQkvIdeal.Frame
public import proofs.«01_k».proof.Proof.Gen.ProjQkvIdeal.Value
public import proofs.«01_k».proof.Proof.Gen.ProjQkvRefIdeal
public import proofs.«01_k».proof.Proof.Gen.ProjQkvRefIdeal.Run
public import proofs.«01_k».proof.Proof.Gen.ProjPool
public import proofs.«01_k».proof.Proof.Gen.ProjPool.Skeleton
public import proofs.«01_k».proof.Proof.Gen.ProjPool.Launch
public import proofs.«01_k».proof.Proof.Gen.ProjPool.Points
public import proofs.«01_k».proof.Proof.Gen.ProjPool.Frame
public import proofs.«01_k».proof.Proof.Gen.ProjPoolIdeal
public import proofs.«01_k».proof.Proof.Gen.ProjPoolIdeal.Skeleton
public import proofs.«01_k».proof.Proof.Gen.ProjPoolIdeal.Launch
public import proofs.«01_k».proof.Proof.Gen.ProjPoolIdeal.Points
public import proofs.«01_k».proof.Proof.Gen.ProjPoolIdeal.Frame
public import proofs.«01_k».proof.Proof.Gen.ProjPoolIdeal.Value
public import proofs.«01_k».proof.Proof.Gen.ProjPoolRefIdeal
public import proofs.«01_k».proof.Proof.Gen.ProjPoolRefIdeal.Run
public import proofs.«01_k».proof.Proof.Gen.ProjRwkv
public import proofs.«01_k».proof.Proof.Gen.ProjRwkv.Skeleton
public import proofs.«01_k».proof.Proof.Gen.ProjRwkv.Launch
public import proofs.«01_k».proof.Proof.Gen.ProjRwkv.Points
public import proofs.«01_k».proof.Proof.Gen.ProjRwkv.Frame
public import proofs.«01_k».proof.Proof.Gen.ProjRwkvIdeal
public import proofs.«01_k».proof.Proof.Gen.ProjRwkvIdeal.Skeleton
public import proofs.«01_k».proof.Proof.Gen.ProjRwkvIdeal.Launch
public import proofs.«01_k».proof.Proof.Gen.ProjRwkvIdeal.Points
public import proofs.«01_k».proof.Proof.Gen.ProjRwkvIdeal.Frame
public import proofs.«01_k».proof.Proof.Gen.ProjRwkvIdeal.Value
public import proofs.«01_k».proof.Proof.Gen.ProjRwkvRefIdeal
public import proofs.«01_k».proof.Proof.Gen.ProjRwkvRefIdeal.Run
public import proofs.«01_k».proof.Proof.Gen.ProjGate
public import proofs.«01_k».proof.Proof.Gen.ProjGate.Skeleton
public import proofs.«01_k».proof.Proof.Gen.ProjGate.Launch
public import proofs.«01_k».proof.Proof.Gen.ProjGate.Points
public import proofs.«01_k».proof.Proof.Gen.ProjGate.Frame
public import proofs.«01_k».proof.Proof.Gen.ProjGateIdeal
public import proofs.«01_k».proof.Proof.Gen.ProjGateIdeal.Skeleton
public import proofs.«01_k».proof.Proof.Gen.ProjGateIdeal.Launch
public import proofs.«01_k».proof.Proof.Gen.ProjGateIdeal.Points
public import proofs.«01_k».proof.Proof.Gen.ProjGateIdeal.Frame
public import proofs.«01_k».proof.Proof.Gen.ProjGateIdeal.Value
public import proofs.«01_k».proof.Proof.Gen.ProjGateRefIdeal
public import proofs.«01_k».proof.Proof.Gen.ProjGateRefIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleFinal
public import proofs.«01_k».proof.Proof.Gen.PleFinal.Skeleton
public import proofs.«01_k».proof.Proof.Gen.PleFinal.Launch
public import proofs.«01_k».proof.Proof.Gen.PleFinal.Points
public import proofs.«01_k».proof.Proof.Gen.PleFinal.Frame
public import proofs.«01_k».proof.Proof.Gen.PleFinalIdeal
public import proofs.«01_k».proof.Proof.Gen.PleFinalIdeal.Skeleton
public import proofs.«01_k».proof.Proof.Gen.PleFinalIdeal.Launch
public import proofs.«01_k».proof.Proof.Gen.PleFinalIdeal.Points
public import proofs.«01_k».proof.Proof.Gen.PleFinalIdeal.Frame
public import proofs.«01_k».proof.Proof.Gen.PleFinalIdeal.Value
public import proofs.«01_k».proof.Proof.Gen.PleFinalRefIdeal
public import proofs.«01_k».proof.Proof.Gen.PleFinalRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.PeerQuery
public import proofs.«01_k».proof.Proof.Gen.PeerQuery.Skeleton
public import proofs.«01_k».proof.Proof.Gen.PeerQuery.Launch
public import proofs.«01_k».proof.Proof.Gen.PeerQuery.Points
public import proofs.«01_k».proof.Proof.Gen.PeerQuery.Frame
public import proofs.«01_k».proof.Proof.Gen.PeerQueryIdeal
public import proofs.«01_k».proof.Proof.Gen.PeerQueryIdeal.Skeleton
public import proofs.«01_k».proof.Proof.Gen.PeerQueryIdeal.Launch
public import proofs.«01_k».proof.Proof.Gen.PeerQueryIdeal.Points
public import proofs.«01_k».proof.Proof.Gen.PeerQueryIdeal.Frame
public import proofs.«01_k».proof.Proof.Gen.PeerQueryRefIdeal
public import proofs.«01_k».proof.Proof.Gen.PeerQueryRefIdeal.Run
public import Idealize.ShloMosaic.Adequacy
public import Idealize.ShloMosaic.Init
public import proofs.«01_k».proof.Proof.Gen.Pre_query_finite
public import proofs.«01_k».proof.Proof.Query.Ideal
public import proofs.«01_k».proof.Proof.Query.Bits
public import proofs.«01_k».proof.Proof.Layer.Band1
public import proofs.«01_k».proof.Proof.Layer.ProjQkv
public import proofs.«01_k».proof.Proof.Layer.ProjPool
public import proofs.«01_k».proof.Proof.Layer.ProjRwkv
public import proofs.«01_k».proof.Proof.Layer.ProjGate
public import proofs.«01_k».proof.Proof.Layer.Ple
public import proofs.«01_k».proof.Proof.Layer.PleFinal
public import proofs.«01_k».proof.Proof.Layer.OutProj
public import proofs.«01_k».proof.Proof.Layer.Mix
public import proofs.«01_k».proof.Proof.Layer.Rope
public import proofs.«01_k».proof.Proof.Layer.PeerQuery

@[expose] public section

noncomputable section

namespace Cert.Proof

open Idealize.ShloMosaic Idealize.SL.Sem

/-- Everything claimed of the programs. -/
theorem claim : Cert.Claim := ⟨
  Cert.Band1.Gen.facts, Cert.Band1Ideal.Gen.facts, Cert.Band1RefIdeal.Gen.facts,
  Cert.ProjQkv.Gen.facts, Cert.ProjQkvIdeal.Gen.facts, Cert.ProjQkvRefIdeal.Gen.facts,
  Cert.ProjPool.Gen.facts, Cert.ProjPoolIdeal.Gen.facts, Cert.ProjPoolRefIdeal.Gen.facts,
  Cert.ProjRwkv.Gen.facts, Cert.ProjRwkvIdeal.Gen.facts, Cert.ProjRwkvRefIdeal.Gen.facts,
  Cert.ProjGate.Gen.facts, Cert.ProjGateIdeal.Gen.facts, Cert.ProjGateRefIdeal.Gen.facts,
  Cert.Ple.Gen.facts, Cert.PleIdeal.Gen.facts, Cert.PleRefIdeal.Gen.facts,
  Cert.PleFinal.Gen.facts, Cert.PleFinalIdeal.Gen.facts, Cert.PleFinalRefIdeal.Gen.facts,
  Cert.OutProj.Gen.facts, Cert.OutProjIdeal.Gen.facts, Cert.OutProjRefIdeal.Gen.facts,
  Cert.Mix.Gen.facts, Cert.MixIdeal.Gen.facts, Cert.MixRefIdeal.Gen.facts,
  Cert.Rope.Gen.facts, Cert.RopeIdeal.Gen.facts, Cert.RopeRefIdeal.Gen.facts,
  Cert.PeerQuery.Gen.facts, Cert.PeerQueryIdeal.Gen.facts, Cert.PeerQueryRefIdeal.Gen.facts,
  Cert.Pre_query_finite.Gen.facts,
  fun m g _ => Cert.Band1.Gen.frame m g, fun m g _ => Cert.Band1Ideal.Gen.frame m g, Cert.Band1Proof.ref_frame,
  fun m g _ => Cert.ProjQkv.Gen.frame m g, fun m g _ => Cert.ProjQkvIdeal.Gen.frame m g, Cert.ProjQkvProof.ref_frame,
  fun m g _ => Cert.ProjPool.Gen.frame m g, fun m g _ => Cert.ProjPoolIdeal.Gen.frame m g, Cert.ProjPoolProof.ref_frame,
  fun m g _ => Cert.ProjRwkv.Gen.frame m g, fun m g _ => Cert.ProjRwkvIdeal.Gen.frame m g, Cert.ProjRwkvProof.ref_frame,
  fun m g _ => Cert.ProjGate.Gen.frame m g, fun m g _ => Cert.ProjGateIdeal.Gen.frame m g, Cert.ProjGateProof.ref_frame,
  fun m g _ => Cert.Ple.Gen.frame m g, fun m g _ => Cert.PleIdeal.Gen.frame m g, Cert.PleProof.ref_frame,
  fun m g _ => Cert.PleFinal.Gen.frame m g, fun m g _ => Cert.PleFinalIdeal.Gen.frame m g, Cert.PleFinalProof.ref_frame,
  fun m g _ => Cert.OutProj.Gen.frame m g, fun m g _ => Cert.OutProjIdeal.Gen.frame m g, Cert.OutProjProof.ref_frame,
  fun m g _ => Cert.Mix.Gen.frame m g, fun m g _ => Cert.MixIdeal.Gen.frame m g, Cert.MixProof.ref_frame,
  fun m g _ => Cert.Rope.Gen.frame m g, fun m g _ => Cert.RopeIdeal.Gen.frame m g, Cert.RopeProof.ref_frame,
  fun m g _ => Cert.PeerQuery.Hand.frame m g, fun m g _ => Cert.PeerQueryIdeal.Hand.frame m g,
  fun m g _ => Cert.PeerQueryIdeal.Hand.frame m g, Cert.PeerQueryProof.ref_frame,
  fun m g _ => Cert.PeerQueryProof.ref_frame m g trivial,
  trivial, Cert.Band1Proof.value,
  trivial, Cert.ProjQkvProof.value,
  trivial, Cert.ProjPoolProof.value,
  trivial, Cert.ProjRwkvProof.value,
  trivial, Cert.ProjGateProof.value,
  trivial, Cert.PleProof.value,
  trivial, Cert.PleFinalProof.value,
  trivial, Cert.OutProjProof.value,
  trivial, Cert.MixProof.value,
  trivial, Cert.RopeProof.value,
  trivial, Cert.PeerQueryProof.value⟩

end Cert.Proof

end
